-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_RefHeadIdeal (m : (ℓ : Loc Cert.RefHeadIdeal.nD Cert.RefHeadIdeal.τ Cert.RefHeadIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_RefFinalIdeal (m : (ℓ : Loc Cert.RefFinalIdeal.nD Cert.RefFinalIdeal.τ Cert.RefFinalIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_dt_small_m1 [hPre_dt_small_m1 : Cert.Pre_dt_small_m1.Facts] (m : (ℓ : Loc Cert.MidIdeal.nD Cert.MidIdeal.τ Cert.MidIdeal.sig) → Buf (Elt Ideal) ℓ) : Prop :=
  ∀ c : Dev Cert.MidIdeal.nD,
    (Cert.Pre_dt_small_m1.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11))) = (fun _ => 1#1)

def Pre_RefMidIdeal (m : (ℓ : Loc Cert.RefMidIdeal.nD Cert.RefMidIdeal.τ Cert.RefMidIdeal.sig) → Buf (Elt Ideal) ℓ) : Prop :=
  True

def Pre_RefMidIdeal_dt_small_m1 [hPre_dt_small_m1 : Cert.Pre_dt_small_m1.Facts] (m : (ℓ : Loc Cert.RefMidIdeal.nD Cert.RefMidIdeal.τ Cert.RefMidIdeal.sig) → Buf (Elt Ideal) ℓ) : Prop :=
  ∀ c : Dev Cert.RefMidIdeal.nD,
    (Cert.Pre_dt_small_m1.fn (F := Ideal) (m ((c.tc : Thread Cert.RefMidIdeal.nD Cert.RefMidIdeal.τ).loc Cert.RefMidIdeal.main_arg0)) (m ((c.tc : Thread Cert.RefMidIdeal.nD Cert.RefMidIdeal.τ).loc Cert.RefMidIdeal.main_arg1)) (m ((c.tc : Thread Cert.RefMidIdeal.nD Cert.RefMidIdeal.τ).loc Cert.RefMidIdeal.main_arg2)) (m ((c.tc : Thread Cert.RefMidIdeal.nD Cert.RefMidIdeal.τ).loc Cert.RefMidIdeal.main_arg3)) (m ((c.tc : Thread Cert.RefMidIdeal.nD Cert.RefMidIdeal.τ).loc Cert.RefMidIdeal.main_arg4)) (m ((c.tc : Thread Cert.RefMidIdeal.nD Cert.RefMidIdeal.τ).loc Cert.RefMidIdeal.main_arg5)) (m ((c.tc : Thread Cert.RefMidIdeal.nD Cert.RefMidIdeal.τ).loc Cert.RefMidIdeal.main_arg6)) (m ((c.tc : Thread Cert.RefMidIdeal.nD Cert.RefMidIdeal.τ).loc Cert.RefMidIdeal.main_arg7)) (m ((c.tc : Thread Cert.RefMidIdeal.nD Cert.RefMidIdeal.τ).loc Cert.RefMidIdeal.main_arg8)) (m ((c.tc : Thread Cert.RefMidIdeal.nD Cert.RefMidIdeal.τ).loc Cert.RefMidIdeal.main_arg9)) (m ((c.tc : Thread Cert.RefMidIdeal.nD Cert.RefMidIdeal.τ).loc Cert.RefMidIdeal.main_arg10)) (m ((c.tc : Thread Cert.RefMidIdeal.nD Cert.RefMidIdeal.τ).loc Cert.RefMidIdeal.main_arg11))) = (fun _ => 1#1)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1))
      ∧ r.2.sem = fun _ => 0)

def quiescent_RefHeadIdeal [hRefHeadIdeal : Cert.RefHeadIdeal.Facts] : Prop :=
  ∀ (m : (ℓ : Loc Cert.RefHeadIdeal.nD Cert.RefHeadIdeal.τ Cert.RefHeadIdeal.sig) → Buf (Elt Ideal) ℓ) (g : Dev Cert.RefHeadIdeal.nD → PrngReg), Pre_RefHeadIdeal m →
    θ_run (Cert.RefHeadIdeal.defs (F := Ideal)) (onTc (τ := Cert.RefHeadIdeal.τ) (Cert.RefHeadIdeal.main (F := Ideal))) ⟨m, fun _ => 0, g⟩ (fun r => (∀ c : Dev Cert.RefHeadIdeal.nD,
      r.2.mem ((c.tc : Thread Cert.RefHeadIdeal.nD Cert.RefHeadIdeal.τ).loc Cert.RefHeadIdeal.main_arg0) = m ((c.tc : Thread Cert.RefHeadIdeal.nD Cert.RefHeadIdeal.τ).loc Cert.RefHeadIdeal.main_arg0)
      ∧ r.2.mem ((c.tc : Thread Cert.RefHeadIdeal.nD Cert.RefHeadIdeal.τ).loc Cert.RefHeadIdeal.main_arg1) = m ((c.tc : Thread Cert.RefHeadIdeal.nD Cert.RefHeadIdeal.τ).loc Cert.RefHeadIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_RefFinalIdeal [hRefFinalIdeal : Cert.RefFinalIdeal.Facts] : Prop :=
  ∀ (m : (ℓ : Loc Cert.RefFinalIdeal.nD Cert.RefFinalIdeal.τ Cert.RefFinalIdeal.sig) → Buf (Elt Ideal) ℓ) (g : Dev Cert.RefFinalIdeal.nD → PrngReg), Pre_RefFinalIdeal m →
    θ_run (Cert.RefFinalIdeal.defs (F := Ideal)) (onTc (τ := Cert.RefFinalIdeal.τ) (Cert.RefFinalIdeal.main (F := Ideal))) ⟨m, fun _ => 0, g⟩ (fun r => (∀ c : Dev Cert.RefFinalIdeal.nD,
      r.2.mem ((c.tc : Thread Cert.RefFinalIdeal.nD Cert.RefFinalIdeal.τ).loc Cert.RefFinalIdeal.main_arg0) = m ((c.tc : Thread Cert.RefFinalIdeal.nD Cert.RefFinalIdeal.τ).loc Cert.RefFinalIdeal.main_arg0)
      ∧ r.2.mem ((c.tc : Thread Cert.RefFinalIdeal.nD Cert.RefFinalIdeal.τ).loc Cert.RefFinalIdeal.main_arg1) = m ((c.tc : Thread Cert.RefFinalIdeal.nD Cert.RefFinalIdeal.τ).loc Cert.RefFinalIdeal.main_arg1)
      ∧ r.2.mem ((c.tc : Thread Cert.RefFinalIdeal.nD Cert.RefFinalIdeal.τ).loc Cert.RefFinalIdeal.main_arg2) = m ((c.tc : Thread Cert.RefFinalIdeal.nD Cert.RefFinalIdeal.τ).loc Cert.RefFinalIdeal.main_arg2)
      ∧ r.2.mem ((c.tc : Thread Cert.RefFinalIdeal.nD Cert.RefFinalIdeal.τ).loc Cert.RefFinalIdeal.main_arg3) = m ((c.tc : Thread Cert.RefFinalIdeal.nD Cert.RefFinalIdeal.τ).loc Cert.RefFinalIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11))
      ∧ r.2.sem = fun _ => 0)

def quiescent_MidIdeal_pre_dt_small_m1 [hMidIdeal : Cert.MidIdeal.Facts] [hPre_dt_small_m1 : Cert.Pre_dt_small_m1.Facts] : Prop :=
  ∀ (m : (ℓ : Loc Cert.MidIdeal.nD Cert.MidIdeal.τ Cert.MidIdeal.sig) → Buf (Elt Ideal) ℓ) (g : Dev Cert.MidIdeal.nD → PrngReg), Pre_MidIdeal_dt_small_m1 m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11))
      ∧ r.2.sem = fun _ => 0)

def quiescent_RefMidIdeal [hRefMidIdeal : Cert.RefMidIdeal.Facts] : Prop :=
  ∀ (m : (ℓ : Loc Cert.RefMidIdeal.nD Cert.RefMidIdeal.τ Cert.RefMidIdeal.sig) → Buf (Elt Ideal) ℓ) (g : Dev Cert.RefMidIdeal.nD → PrngReg), Pre_RefMidIdeal m →
    θ_run (Cert.RefMidIdeal.defs (F := Ideal)) (onTc (τ := Cert.RefMidIdeal.τ) (Cert.RefMidIdeal.main (F := Ideal))) ⟨m, fun _ => 0, g⟩ (fun r => (∀ c : Dev Cert.RefMidIdeal.nD,
      r.2.mem ((c.tc : Thread Cert.RefMidIdeal.nD Cert.RefMidIdeal.τ).loc Cert.RefMidIdeal.main_arg0) = m ((c.tc : Thread Cert.RefMidIdeal.nD Cert.RefMidIdeal.τ).loc Cert.RefMidIdeal.main_arg0)
      ∧ r.2.mem ((c.tc : Thread Cert.RefMidIdeal.nD Cert.RefMidIdeal.τ).loc Cert.RefMidIdeal.main_arg1) = m ((c.tc : Thread Cert.RefMidIdeal.nD Cert.RefMidIdeal.τ).loc Cert.RefMidIdeal.main_arg1)
      ∧ r.2.mem ((c.tc : Thread Cert.RefMidIdeal.nD Cert.RefMidIdeal.τ).loc Cert.RefMidIdeal.main_arg2) = m ((c.tc : Thread Cert.RefMidIdeal.nD Cert.RefMidIdeal.τ).loc Cert.RefMidIdeal.main_arg2)
      ∧ r.2.mem ((c.tc : Thread Cert.RefMidIdeal.nD Cert.RefMidIdeal.τ).loc Cert.RefMidIdeal.main_arg3) = m ((c.tc : Thread Cert.RefMidIdeal.nD Cert.RefMidIdeal.τ).loc Cert.RefMidIdeal.main_arg3)
      ∧ r.2.mem ((c.tc : Thread Cert.RefMidIdeal.nD Cert.RefMidIdeal.τ).loc Cert.RefMidIdeal.main_arg4) = m ((c.tc : Thread Cert.RefMidIdeal.nD Cert.RefMidIdeal.τ).loc Cert.RefMidIdeal.main_arg4)
      ∧ r.2.mem ((c.tc : Thread Cert.RefMidIdeal.nD Cert.RefMidIdeal.τ).loc Cert.RefMidIdeal.main_arg5) = m ((c.tc : Thread Cert.RefMidIdeal.nD Cert.RefMidIdeal.τ).loc Cert.RefMidIdeal.main_arg5)
      ∧ r.2.mem ((c.tc : Thread Cert.RefMidIdeal.nD Cert.RefMidIdeal.τ).loc Cert.RefMidIdeal.main_arg6) = m ((c.tc : Thread Cert.RefMidIdeal.nD Cert.RefMidIdeal.τ).loc Cert.RefMidIdeal.main_arg6)
      ∧ r.2.mem ((c.tc : Thread Cert.RefMidIdeal.nD Cert.RefMidIdeal.τ).loc Cert.RefMidIdeal.main_arg7) = m ((c.tc : Thread Cert.RefMidIdeal.nD Cert.RefMidIdeal.τ).loc Cert.RefMidIdeal.main_arg7)
      ∧ r.2.mem ((c.tc : Thread Cert.RefMidIdeal.nD Cert.RefMidIdeal.τ).loc Cert.RefMidIdeal.main_arg8) = m ((c.tc : Thread Cert.RefMidIdeal.nD Cert.RefMidIdeal.τ).loc Cert.RefMidIdeal.main_arg8)
      ∧ r.2.mem ((c.tc : Thread Cert.RefMidIdeal.nD Cert.RefMidIdeal.τ).loc Cert.RefMidIdeal.main_arg9) = m ((c.tc : Thread Cert.RefMidIdeal.nD Cert.RefMidIdeal.τ).loc Cert.RefMidIdeal.main_arg9)
      ∧ r.2.mem ((c.tc : Thread Cert.RefMidIdeal.nD Cert.RefMidIdeal.τ).loc Cert.RefMidIdeal.main_arg10) = m ((c.tc : Thread Cert.RefMidIdeal.nD Cert.RefMidIdeal.τ).loc Cert.RefMidIdeal.main_arg10)
      ∧ r.2.mem ((c.tc : Thread Cert.RefMidIdeal.nD Cert.RefMidIdeal.τ).loc Cert.RefMidIdeal.main_arg11) = m ((c.tc : Thread Cert.RefMidIdeal.nD Cert.RefMidIdeal.τ).loc Cert.RefMidIdeal.main_arg11))
      ∧ r.2.sem = fun _ => 0)

def quiescent_RefMidIdeal_pre_dt_small_m1 [hRefMidIdeal : Cert.RefMidIdeal.Facts] [hPre_dt_small_m1 : Cert.Pre_dt_small_m1.Facts] : Prop :=
  ∀ (m : (ℓ : Loc Cert.RefMidIdeal.nD Cert.RefMidIdeal.τ Cert.RefMidIdeal.sig) → Buf (Elt Ideal) ℓ) (g : Dev Cert.RefMidIdeal.nD → PrngReg), Pre_RefMidIdeal_dt_small_m1 m →
    θ_run (Cert.RefMidIdeal.defs (F := Ideal)) (onTc (τ := Cert.RefMidIdeal.τ) (Cert.RefMidIdeal.main (F := Ideal))) ⟨m, fun _ => 0, g⟩ (fun r => (∀ c : Dev Cert.RefMidIdeal.nD,
      r.2.mem ((c.tc : Thread Cert.RefMidIdeal.nD Cert.RefMidIdeal.τ).loc Cert.RefMidIdeal.main_arg0) = m ((c.tc : Thread Cert.RefMidIdeal.nD Cert.RefMidIdeal.τ).loc Cert.RefMidIdeal.main_arg0)
      ∧ r.2.mem ((c.tc : Thread Cert.RefMidIdeal.nD Cert.RefMidIdeal.τ).loc Cert.RefMidIdeal.main_arg1) = m ((c.tc : Thread Cert.RefMidIdeal.nD Cert.RefMidIdeal.τ).loc Cert.RefMidIdeal.main_arg1)
      ∧ r.2.mem ((c.tc : Thread Cert.RefMidIdeal.nD Cert.RefMidIdeal.τ).loc Cert.RefMidIdeal.main_arg2) = m ((c.tc : Thread Cert.RefMidIdeal.nD Cert.RefMidIdeal.τ).loc Cert.RefMidIdeal.main_arg2)
      ∧ r.2.mem ((c.tc : Thread Cert.RefMidIdeal.nD Cert.RefMidIdeal.τ).loc Cert.RefMidIdeal.main_arg3) = m ((c.tc : Thread Cert.RefMidIdeal.nD Cert.RefMidIdeal.τ).loc Cert.RefMidIdeal.main_arg3)
      ∧ r.2.mem ((c.tc : Thread Cert.RefMidIdeal.nD Cert.RefMidIdeal.τ).loc Cert.RefMidIdeal.main_arg4) = m ((c.tc : Thread Cert.RefMidIdeal.nD Cert.RefMidIdeal.τ).loc Cert.RefMidIdeal.main_arg4)
      ∧ r.2.mem ((c.tc : Thread Cert.RefMidIdeal.nD Cert.RefMidIdeal.τ).loc Cert.RefMidIdeal.main_arg5) = m ((c.tc : Thread Cert.RefMidIdeal.nD Cert.RefMidIdeal.τ).loc Cert.RefMidIdeal.main_arg5)
      ∧ r.2.mem ((c.tc : Thread Cert.RefMidIdeal.nD Cert.RefMidIdeal.τ).loc Cert.RefMidIdeal.main_arg6) = m ((c.tc : Thread Cert.RefMidIdeal.nD Cert.RefMidIdeal.τ).loc Cert.RefMidIdeal.main_arg6)
      ∧ r.2.mem ((c.tc : Thread Cert.RefMidIdeal.nD Cert.RefMidIdeal.τ).loc Cert.RefMidIdeal.main_arg7) = m ((c.tc : Thread Cert.RefMidIdeal.nD Cert.RefMidIdeal.τ).loc Cert.RefMidIdeal.main_arg7)
      ∧ r.2.mem ((c.tc : Thread Cert.RefMidIdeal.nD Cert.RefMidIdeal.τ).loc Cert.RefMidIdeal.main_arg8) = m ((c.tc : Thread Cert.RefMidIdeal.nD Cert.RefMidIdeal.τ).loc Cert.RefMidIdeal.main_arg8)
      ∧ r.2.mem ((c.tc : Thread Cert.RefMidIdeal.nD Cert.RefMidIdeal.τ).loc Cert.RefMidIdeal.main_arg9) = m ((c.tc : Thread Cert.RefMidIdeal.nD Cert.RefMidIdeal.τ).loc Cert.RefMidIdeal.main_arg9)
      ∧ r.2.mem ((c.tc : Thread Cert.RefMidIdeal.nD Cert.RefMidIdeal.τ).loc Cert.RefMidIdeal.main_arg10) = m ((c.tc : Thread Cert.RefMidIdeal.nD Cert.RefMidIdeal.τ).loc Cert.RefMidIdeal.main_arg10)
      ∧ r.2.mem ((c.tc : Thread Cert.RefMidIdeal.nD Cert.RefMidIdeal.τ).loc Cert.RefMidIdeal.main_arg11) = m ((c.tc : Thread Cert.RefMidIdeal.nD Cert.RefMidIdeal.τ).loc Cert.RefMidIdeal.main_arg11))
      ∧ r.2.sem = fun _ => 0)

def preserves_Head_HeadIdeal : Prop :=
  True

def algebraic_HeadIdeal_RefHeadIdeal [hHeadIdeal : Cert.HeadIdeal.Facts] [hRefHeadIdeal : Cert.RefHeadIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.RefHeadIdeal.nD Cert.RefHeadIdeal.τ Cert.RefHeadIdeal.sig) → Buf (Elt Ideal) ℓ) (g' : Dev Cert.RefHeadIdeal.nD → PrngReg), Pre_HeadIdeal m →
    (∀ c : Dev Cert.HeadIdeal.nD,
      m' ((c.tc : Thread Cert.RefHeadIdeal.nD Cert.RefHeadIdeal.τ).loc Cert.RefHeadIdeal.main_arg0) = m ((c.tc : Thread Cert.HeadIdeal.nD Cert.HeadIdeal.τ).loc Cert.HeadIdeal.main_arg0)
      ∧ m' ((c.tc : Thread Cert.RefHeadIdeal.nD Cert.RefHeadIdeal.τ).loc Cert.RefHeadIdeal.main_arg1) = m ((c.tc : Thread Cert.HeadIdeal.nD Cert.HeadIdeal.τ).loc Cert.HeadIdeal.main_arg1)) →
    ∃ (v0 : (c : Dev Cert.HeadIdeal.nD) → Buf (Elt Ideal) ((c.tc : Thread Cert.HeadIdeal.nD Cert.HeadIdeal.τ).loc Cert.HeadIdeal.main_v2)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v2) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1))
      ∧ θ_run (Cert.RefHeadIdeal.defs (F := Ideal)) (onTc (τ := Cert.RefHeadIdeal.τ) (Cert.RefHeadIdeal.main (F := Ideal))) ⟨m', fun _ => 0, g'⟩ (fun r => ∀ c : Dev Cert.RefHeadIdeal.nD,
          r.2.mem ((c.tc : Thread Cert.RefHeadIdeal.nD Cert.RefHeadIdeal.τ).loc Cert.RefHeadIdeal.main_v2) = v0 c
          ∧ r.2.mem ((c.tc : Thread Cert.RefHeadIdeal.nD Cert.RefHeadIdeal.τ).loc Cert.RefHeadIdeal.main_arg0) = m' ((c.tc : Thread Cert.RefHeadIdeal.nD Cert.RefHeadIdeal.τ).loc Cert.RefHeadIdeal.main_arg0)
          ∧ r.2.mem ((c.tc : Thread Cert.RefHeadIdeal.nD Cert.RefHeadIdeal.τ).loc Cert.RefHeadIdeal.main_arg1) = m' ((c.tc : Thread Cert.RefHeadIdeal.nD Cert.RefHeadIdeal.τ).loc Cert.RefHeadIdeal.main_arg1))

def preserves_Final_FinalIdeal : Prop :=
  True

def algebraic_FinalIdeal_RefFinalIdeal [hFinalIdeal : Cert.FinalIdeal.Facts] [hRefFinalIdeal : Cert.RefFinalIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.RefFinalIdeal.nD Cert.RefFinalIdeal.τ Cert.RefFinalIdeal.sig) → Buf (Elt Ideal) ℓ) (g' : Dev Cert.RefFinalIdeal.nD → PrngReg), Pre_FinalIdeal m →
    (∀ c : Dev Cert.FinalIdeal.nD,
      m' ((c.tc : Thread Cert.RefFinalIdeal.nD Cert.RefFinalIdeal.τ).loc Cert.RefFinalIdeal.main_arg0) = m ((c.tc : Thread Cert.FinalIdeal.nD Cert.FinalIdeal.τ).loc Cert.FinalIdeal.main_arg0)
      ∧ m' ((c.tc : Thread Cert.RefFinalIdeal.nD Cert.RefFinalIdeal.τ).loc Cert.RefFinalIdeal.main_arg1) = m ((c.tc : Thread Cert.FinalIdeal.nD Cert.FinalIdeal.τ).loc Cert.FinalIdeal.main_arg1)
      ∧ m' ((c.tc : Thread Cert.RefFinalIdeal.nD Cert.RefFinalIdeal.τ).loc Cert.RefFinalIdeal.main_arg2) = m ((c.tc : Thread Cert.FinalIdeal.nD Cert.FinalIdeal.τ).loc Cert.FinalIdeal.main_arg2)
      ∧ m' ((c.tc : Thread Cert.RefFinalIdeal.nD Cert.RefFinalIdeal.τ).loc Cert.RefFinalIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v4)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v4) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.RefFinalIdeal.defs (F := Ideal)) (onTc (τ := Cert.RefFinalIdeal.τ) (Cert.RefFinalIdeal.main (F := Ideal))) ⟨m', fun _ => 0, g'⟩ (fun r => ∀ c : Dev Cert.RefFinalIdeal.nD,
          r.2.mem ((c.tc : Thread Cert.RefFinalIdeal.nD Cert.RefFinalIdeal.τ).loc Cert.RefFinalIdeal.main_v18) = v0 c
          ∧ r.2.mem ((c.tc : Thread Cert.RefFinalIdeal.nD Cert.RefFinalIdeal.τ).loc Cert.RefFinalIdeal.main_arg0) = m' ((c.tc : Thread Cert.RefFinalIdeal.nD Cert.RefFinalIdeal.τ).loc Cert.RefFinalIdeal.main_arg0)
          ∧ r.2.mem ((c.tc : Thread Cert.RefFinalIdeal.nD Cert.RefFinalIdeal.τ).loc Cert.RefFinalIdeal.main_arg1) = m' ((c.tc : Thread Cert.RefFinalIdeal.nD Cert.RefFinalIdeal.τ).loc Cert.RefFinalIdeal.main_arg1)
          ∧ r.2.mem ((c.tc : Thread Cert.RefFinalIdeal.nD Cert.RefFinalIdeal.τ).loc Cert.RefFinalIdeal.main_arg2) = m' ((c.tc : Thread Cert.RefFinalIdeal.nD Cert.RefFinalIdeal.τ).loc Cert.RefFinalIdeal.main_arg2)
          ∧ r.2.mem ((c.tc : Thread Cert.RefFinalIdeal.nD Cert.RefFinalIdeal.τ).loc Cert.RefFinalIdeal.main_arg3) = m' ((c.tc : Thread Cert.RefFinalIdeal.nD Cert.RefFinalIdeal.τ).loc Cert.RefFinalIdeal.main_arg3))

def preserves_Mid_MidIdeal : Prop :=
  True

def algebraic_MidIdeal_RefMidIdeal_pre_dt_small_m1 [hMidIdeal : Cert.MidIdeal.Facts] [hRefMidIdeal : Cert.RefMidIdeal.Facts] [hPre_dt_small_m1 : Cert.Pre_dt_small_m1.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.RefMidIdeal.nD Cert.RefMidIdeal.τ Cert.RefMidIdeal.sig) → Buf (Elt Ideal) ℓ) (g' : Dev Cert.RefMidIdeal.nD → PrngReg), Pre_MidIdeal_dt_small_m1 m →
    (∀ c : Dev Cert.MidIdeal.nD,
      m' ((c.tc : Thread Cert.RefMidIdeal.nD Cert.RefMidIdeal.τ).loc Cert.RefMidIdeal.main_arg0) = m ((c.tc : Thread Cert.MidIdeal.nD Cert.MidIdeal.τ).loc Cert.MidIdeal.main_arg0)
      ∧ m' ((c.tc : Thread Cert.RefMidIdeal.nD Cert.RefMidIdeal.τ).loc Cert.RefMidIdeal.main_arg1) = m ((c.tc : Thread Cert.MidIdeal.nD Cert.MidIdeal.τ).loc Cert.MidIdeal.main_arg1)
      ∧ m' ((c.tc : Thread Cert.RefMidIdeal.nD Cert.RefMidIdeal.τ).loc Cert.RefMidIdeal.main_arg2) = m ((c.tc : Thread Cert.MidIdeal.nD Cert.MidIdeal.τ).loc Cert.MidIdeal.main_arg2)
      ∧ m' ((c.tc : Thread Cert.RefMidIdeal.nD Cert.RefMidIdeal.τ).loc Cert.RefMidIdeal.main_arg3) = m ((c.tc : Thread Cert.MidIdeal.nD Cert.MidIdeal.τ).loc Cert.MidIdeal.main_arg3)
      ∧ m' ((c.tc : Thread Cert.RefMidIdeal.nD Cert.RefMidIdeal.τ).loc Cert.RefMidIdeal.main_arg4) = m ((c.tc : Thread Cert.MidIdeal.nD Cert.MidIdeal.τ).loc Cert.MidIdeal.main_arg4)
      ∧ m' ((c.tc : Thread Cert.RefMidIdeal.nD Cert.RefMidIdeal.τ).loc Cert.RefMidIdeal.main_arg5) = m ((c.tc : Thread Cert.MidIdeal.nD Cert.MidIdeal.τ).loc Cert.MidIdeal.main_arg5)
      ∧ m' ((c.tc : Thread Cert.RefMidIdeal.nD Cert.RefMidIdeal.τ).loc Cert.RefMidIdeal.main_arg6) = m ((c.tc : Thread Cert.MidIdeal.nD Cert.MidIdeal.τ).loc Cert.MidIdeal.main_arg6)
      ∧ m' ((c.tc : Thread Cert.RefMidIdeal.nD Cert.RefMidIdeal.τ).loc Cert.RefMidIdeal.main_arg7) = m ((c.tc : Thread Cert.MidIdeal.nD Cert.MidIdeal.τ).loc Cert.MidIdeal.main_arg7)
      ∧ m' ((c.tc : Thread Cert.RefMidIdeal.nD Cert.RefMidIdeal.τ).loc Cert.RefMidIdeal.main_arg8) = m ((c.tc : Thread Cert.MidIdeal.nD Cert.MidIdeal.τ).loc Cert.MidIdeal.main_arg8)
      ∧ m' ((c.tc : Thread Cert.RefMidIdeal.nD Cert.RefMidIdeal.τ).loc Cert.RefMidIdeal.main_arg9) = m ((c.tc : Thread Cert.MidIdeal.nD Cert.MidIdeal.τ).loc Cert.MidIdeal.main_arg9)
      ∧ m' ((c.tc : Thread Cert.RefMidIdeal.nD Cert.RefMidIdeal.τ).loc Cert.RefMidIdeal.main_arg10) = m ((c.tc : Thread Cert.MidIdeal.nD Cert.MidIdeal.τ).loc Cert.MidIdeal.main_arg10)
      ∧ m' ((c.tc : Thread Cert.RefMidIdeal.nD Cert.RefMidIdeal.τ).loc Cert.RefMidIdeal.main_arg11) = m ((c.tc : Thread Cert.MidIdeal.nD Cert.MidIdeal.τ).loc Cert.MidIdeal.main_arg11)) →
    ∃ (v0 : (c : Dev Cert.MidIdeal.nD) → Buf (Elt Ideal) ((c.tc : Thread Cert.MidIdeal.nD Cert.MidIdeal.τ).loc Cert.MidIdeal.main_v30_0)) (v1 : (c : Dev Cert.MidIdeal.nD) → Buf (Elt Ideal) ((c.tc : Thread Cert.MidIdeal.nD Cert.MidIdeal.τ).loc Cert.MidIdeal.main_v30_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v30_0) = v0 c
          ∧ r.2.mem ((c.tc : Thread Cert.MidIdeal.nD Cert.MidIdeal.τ).loc Cert.MidIdeal.main_v30_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11))
      ∧ θ_run (Cert.RefMidIdeal.defs (F := Ideal)) (onTc (τ := Cert.RefMidIdeal.τ) (Cert.RefMidIdeal.main (F := Ideal))) ⟨m', fun _ => 0, g'⟩ (fun r => ∀ c : Dev Cert.RefMidIdeal.nD,
          r.2.mem ((c.tc : Thread Cert.RefMidIdeal.nD Cert.RefMidIdeal.τ).loc Cert.RefMidIdeal.main_v4) = v0 c
          ∧ r.2.mem ((c.tc : Thread Cert.RefMidIdeal.nD Cert.RefMidIdeal.τ).loc Cert.RefMidIdeal.main_v100) = v1 c
          ∧ r.2.mem ((c.tc : Thread Cert.RefMidIdeal.nD Cert.RefMidIdeal.τ).loc Cert.RefMidIdeal.main_arg0) = m' ((c.tc : Thread Cert.RefMidIdeal.nD Cert.RefMidIdeal.τ).loc Cert.RefMidIdeal.main_arg0)
          ∧ r.2.mem ((c.tc : Thread Cert.RefMidIdeal.nD Cert.RefMidIdeal.τ).loc Cert.RefMidIdeal.main_arg1) = m' ((c.tc : Thread Cert.RefMidIdeal.nD Cert.RefMidIdeal.τ).loc Cert.RefMidIdeal.main_arg1)
          ∧ r.2.mem ((c.tc : Thread Cert.RefMidIdeal.nD Cert.RefMidIdeal.τ).loc Cert.RefMidIdeal.main_arg2) = m' ((c.tc : Thread Cert.RefMidIdeal.nD Cert.RefMidIdeal.τ).loc Cert.RefMidIdeal.main_arg2)
          ∧ r.2.mem ((c.tc : Thread Cert.RefMidIdeal.nD Cert.RefMidIdeal.τ).loc Cert.RefMidIdeal.main_arg3) = m' ((c.tc : Thread Cert.RefMidIdeal.nD Cert.RefMidIdeal.τ).loc Cert.RefMidIdeal.main_arg3)
          ∧ r.2.mem ((c.tc : Thread Cert.RefMidIdeal.nD Cert.RefMidIdeal.τ).loc Cert.RefMidIdeal.main_arg4) = m' ((c.tc : Thread Cert.RefMidIdeal.nD Cert.RefMidIdeal.τ).loc Cert.RefMidIdeal.main_arg4)
          ∧ r.2.mem ((c.tc : Thread Cert.RefMidIdeal.nD Cert.RefMidIdeal.τ).loc Cert.RefMidIdeal.main_arg5) = m' ((c.tc : Thread Cert.RefMidIdeal.nD Cert.RefMidIdeal.τ).loc Cert.RefMidIdeal.main_arg5)
          ∧ r.2.mem ((c.tc : Thread Cert.RefMidIdeal.nD Cert.RefMidIdeal.τ).loc Cert.RefMidIdeal.main_arg6) = m' ((c.tc : Thread Cert.RefMidIdeal.nD Cert.RefMidIdeal.τ).loc Cert.RefMidIdeal.main_arg6)
          ∧ r.2.mem ((c.tc : Thread Cert.RefMidIdeal.nD Cert.RefMidIdeal.τ).loc Cert.RefMidIdeal.main_arg7) = m' ((c.tc : Thread Cert.RefMidIdeal.nD Cert.RefMidIdeal.τ).loc Cert.RefMidIdeal.main_arg7)
          ∧ r.2.mem ((c.tc : Thread Cert.RefMidIdeal.nD Cert.RefMidIdeal.τ).loc Cert.RefMidIdeal.main_arg8) = m' ((c.tc : Thread Cert.RefMidIdeal.nD Cert.RefMidIdeal.τ).loc Cert.RefMidIdeal.main_arg8)
          ∧ r.2.mem ((c.tc : Thread Cert.RefMidIdeal.nD Cert.RefMidIdeal.τ).loc Cert.RefMidIdeal.main_arg9) = m' ((c.tc : Thread Cert.RefMidIdeal.nD Cert.RefMidIdeal.τ).loc Cert.RefMidIdeal.main_arg9)
          ∧ r.2.mem ((c.tc : Thread Cert.RefMidIdeal.nD Cert.RefMidIdeal.τ).loc Cert.RefMidIdeal.main_arg10) = m' ((c.tc : Thread Cert.RefMidIdeal.nD Cert.RefMidIdeal.τ).loc Cert.RefMidIdeal.main_arg10)
          ∧ r.2.mem ((c.tc : Thread Cert.RefMidIdeal.nD Cert.RefMidIdeal.τ).loc Cert.RefMidIdeal.main_arg11) = m' ((c.tc : Thread Cert.RefMidIdeal.nD Cert.RefMidIdeal.τ).loc Cert.RefMidIdeal.main_arg11))

def Claim : Prop :=
  ∃ (hHead : Cert.Head.Facts) (hHeadIdeal : Cert.HeadIdeal.Facts) (hRefHeadIdeal : Cert.RefHeadIdeal.Facts) (hFinal : Cert.Final.Facts) (hFinalIdeal : Cert.FinalIdeal.Facts) (hRefFinalIdeal : Cert.RefFinalIdeal.Facts) (hMid : Cert.Mid.Facts) (hMidIdeal : Cert.MidIdeal.Facts) (hRefMidIdeal : Cert.RefMidIdeal.Facts) (hPre_dt_small_m1 : Cert.Pre_dt_small_m1.Facts),
    quiescent_Head (hHead := hHead)
    ∧ quiescent_HeadIdeal (hHeadIdeal := hHeadIdeal)
    ∧ quiescent_RefHeadIdeal (hRefHeadIdeal := hRefHeadIdeal)
    ∧ quiescent_Final (hFinal := hFinal)
    ∧ quiescent_FinalIdeal (hFinalIdeal := hFinalIdeal)
    ∧ quiescent_RefFinalIdeal (hRefFinalIdeal := hRefFinalIdeal)
    ∧ quiescent_Mid (hMid := hMid)
    ∧ quiescent_MidIdeal (hMidIdeal := hMidIdeal)
    ∧ quiescent_MidIdeal_pre_dt_small_m1 (hMidIdeal := hMidIdeal) (hPre_dt_small_m1 := hPre_dt_small_m1)
    ∧ quiescent_RefMidIdeal (hRefMidIdeal := hRefMidIdeal)
    ∧ quiescent_RefMidIdeal_pre_dt_small_m1 (hRefMidIdeal := hRefMidIdeal) (hPre_dt_small_m1 := hPre_dt_small_m1)
    ∧ preserves_Head_HeadIdeal
    ∧ algebraic_HeadIdeal_RefHeadIdeal (hHeadIdeal := hHeadIdeal) (hRefHeadIdeal := hRefHeadIdeal)
    ∧ preserves_Final_FinalIdeal
    ∧ algebraic_FinalIdeal_RefFinalIdeal (hFinalIdeal := hFinalIdeal) (hRefFinalIdeal := hRefFinalIdeal)
    ∧ preserves_Mid_MidIdeal
    ∧ algebraic_MidIdeal_RefMidIdeal_pre_dt_small_m1 (hMidIdeal := hMidIdeal) (hRefMidIdeal := hRefMidIdeal) (hPre_dt_small_m1 := hPre_dt_small_m1)
-- ==== Pre_dt_small_m1.lean ====
abbrev S4096x1024 : Shape := ⟨2, ![4096, 1024]⟩
abbrev S4096x2048 : Shape := ⟨2, ![4096, 2048]⟩
abbrev S2x2048x1024 : Shape := ⟨3, ![2, 2048, 1024]⟩
abbrev S2x1024 : Shape := ⟨2, ![2, 1024]⟩
abbrev S2x1024x4096 : Shape := ⟨3, ![2, 1024, 4096]⟩
abbrev S2x2048x4 : Shape := ⟨3, ![2, 2048, 4]⟩
abbrev S2x2048 : Shape := ⟨2, ![2, 2048]⟩
abbrev S2x2048x96 : Shape := ⟨3, ![2, 2048, 96]⟩
abbrev S2x64x2048 : Shape := ⟨3, ![2, 64, 2048]⟩
abbrev S2x2048x16 : Shape := ⟨3, ![2, 2048, 16]⟩
abbrev S1x2048x1024 : Shape := ⟨3, ![1, 2048, 1024]⟩
abbrev S2048x1024 : Shape := ⟨2, ![2048, 1024]⟩
abbrev S4x1024x1024 : Shape := ⟨3, ![4, 1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x2048x4 : Shape := ⟨3, ![1, 2048, 4]⟩
abbrev S2048x4 : Shape := ⟨2, ![2048, 4]⟩
abbrev S1x2048 : Shape := ⟨2, ![1, 2048]⟩
abbrev S2048 : Shape := ⟨1, ![2048]⟩
abbrev S1x2048x96 : Shape := ⟨3, ![1, 2048, 96]⟩
abbrev S2048x96 : Shape := ⟨2, ![2048, 96]⟩
abbrev S1x64x2048 : Shape := ⟨3, ![1, 64, 2048]⟩
abbrev S64x2048 : Shape := ⟨2, ![64, 2048]⟩
abbrev S_ : Shape := ⟨0, ![]⟩
abbrev S4x1024 : Shape := ⟨2, ![4, 1024]⟩
abbrev S4x1024x1 : Shape := ⟨3, ![4, 1024, 1]⟩
abbrev S1x1x1024 : Shape := ⟨3, ![1, 1, 1024]⟩
abbrev S4x1024x4096 : Shape := ⟨3, ![4, 1024, 4096]⟩
abbrev S4x1024x2048 : Shape := ⟨3, ![4, 1024, 2048]⟩
abbrev S4x1027x2048 : Shape := ⟨3, ![4, 1027, 2048]⟩
abbrev S2048x1 : Shape := ⟨2, ![2048, 1]⟩
abbrev S1x1x2048 : Shape := ⟨3, ![1, 1, 2048]⟩
abbrev S4x1024x96 : Shape := ⟨3, ![4, 1024, 96]⟩
abbrev S4x1024x64 : Shape := ⟨3, ![4, 1024, 64]⟩
abbrev S4x1024x16 : Shape := ⟨3, ![4, 1024, 16]⟩

class Facts : Prop where
  bitsLt_bf16_f32 : FTy.bits .bf16 < FTy.bits .f32
  slices_S2x2048x1024_S1x2048x1024_0_0_0 : S2x2048x1024.Slices ![0, 0, 0] S1x2048x1024
  shapeCasts_S1x2048x1024_S2048x1024 : S1x2048x1024.ShapeCasts S2048x1024
  shapeCasts_S4096x1024_S4x1024x1024 : S4096x1024.ShapeCasts S4x1024x1024
  slices_S2x1024_S1x1024_1_0 : S2x1024.Slices ![1, 0] S1x1024
  shapeCasts_S1x1024_S1024 : S1x1024.ShapeCasts S1024
  slices_S2x1024x4096_S1x1024x4096_1_0_0 : S2x1024x4096.Slices ![1, 0, 0] S1x1024x4096
  shapeCasts_S1x1024x4096_S1024x4096 : S1x1024x4096.ShapeCasts S1024x4096
  slices_S2x2048x4_S1x2048x4_1_0_0 : S2x2048x4.Slices ![1, 0, 0] S1x2048x4
  shapeCasts_S1x2048x4_S2048x4 : S1x2048x4.ShapeCasts S2048x4
  slices_S2x2048_S1x2048_1_0 : S2x2048.Slices ![1, 0] S1x2048
  shapeCasts_S1x2048_S2048 : S1x2048.ShapeCasts S2048
  slices_S2x2048x96_S1x2048x96_1_0_0 : S2x2048x96.Slices ![1, 0, 0] S1x2048x96
  shapeCasts_S1x2048x96_S2048x96 : S1x2048x96.ShapeCasts S2048x96
  slices_S2x64x2048_S1x64x2048_1_0_0 : S2x64x2048.Slices ![1, 0, 0] S1x64x2048
  shapeCasts_S1x64x2048_S64x2048 : S1x64x2048.ShapeCasts S64x2048
  reducesTo_S4x1024x1024_S4x1024_d2 : S4x1024x1024.ReducesTo [2] S4x1024
  h_S_ : 0 < S_.numel
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x1024_0_1_2 : S4x1024x1.BroadcastsInDim S4x1024x1024 (![0, 1, 2] : Fin 3 → Fin S4x1024x1024.rank)
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  slices_S4x1024x4096_S4x1024x2048_0_0_0 : S4x1024x4096.Slices ![0, 0, 0] S4x1024x2048
  slices_S4x1024x4096_S4x1024x2048_0_0_2048 : S4x1024x4096.Slices ![0, 0, 2048] S4x1024x2048
  pads_S4x1024x2048_S4x1027x2048_000_300_000 : S4x1024x2048.Pads (![0, 3, 0] : Fin 3 → Nat) ![0, 0, 0] ![0, 0, 0] S4x1027x2048
  slices_S4x1027x2048_S4x1024x2048_0_0_0 : S4x1027x2048.Slices ![0, 0, 0] S4x1024x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S4x1024x2048_0_1_2 : S1x1x2048.BroadcastsInDim S4x1024x2048 (![0, 1, 2] : Fin 3 → Fin S4x1024x2048.rank)
  bcast_S_S4x1024x2048 : S_.BroadcastsInDim S4x1024x2048 (![] : Fin 0 → Fin S4x1024x2048.rank)
  slices_S4x1027x2048_S4x1024x2048_0_1_0 : S4x1027x2048.Slices ![0, 1, 0] S4x1024x2048
  slices_S2048x4_S2048x1_0_1 : S2048x4.Slices ![0, 1] S2048x1
  slices_S4x1027x2048_S4x1024x2048_0_2_0 : S4x1027x2048.Slices ![0, 2, 0] S4x1024x2048
  slices_S2048x4_S2048x1_0_2 : S2048x4.Slices ![0, 2] S2048x1
  slices_S4x1027x2048_S4x1024x2048_0_3_0 : S4x1027x2048.Slices ![0, 3, 0] S4x1024x2048
  slices_S2048x4_S2048x1_0_3 : S2048x4.Slices ![0, 3] S2048x1
  slices_S4x1024x96_S4x1024x64_0_0_0 : S4x1024x96.Slices ![0, 0, 0] S4x1024x64
  slices_S4x1024x96_S4x1024x16_0_0_64 : S4x1024x96.Slices ![0, 0, 64] S4x1024x16
  slices_S4x1024x96_S4x1024x16_0_0_80 : S4x1024x96.Slices ![0, 0, 80] S4x1024x16
  dot_S4096x2048_S2048x1024_S4096x1024_1_0_0_1_n_n_wf : DotDims.WF S4096x2048 S2048x1024 S4096x1024 [1] [0] [0] [1] [] []
  dot_S4x1024x1024_S1024x4096_S4x1024x4096_2_0_01_1_n_n_wf : DotDims.WF S4x1024x1024 S1024x4096 S4x1024x4096 [2] [0] [0, 1] [1] [] []
  dot_S4x1024x2048_S2048x96_S4x1024x96_2_0_01_1_n_n_wf : DotDims.WF S4x1024x2048 S2048x96 S4x1024x96 [2] [0] [0, 1] [1] [] []
  dot_S4x1024x64_S64x2048_S4x1024x2048_2_0_01_1_n_n_wf : DotDims.WF S4x1024x64 S64x2048 S4x1024x2048 [2] [0] [0, 1] [1] [] []

variable [Facts]

def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4x1024x1024_S1024x4096_S4x1024x4096_2_0_01_1_n_n : DotDims S4x1024x1024 S1024x4096 S4x1024x4096 where
  lhsContracting := [2]
  rhsContracting := [0]
  lhsNonContracting := [0, 1]
  rhsNonContracting := [1]
  lhsBatch := []
  rhsBatch := []
  wf := dot_S4x1024x1024_S1024x4096_S4x1024x4096_2_0_01_1_n_n_wf
def dot_S4x1024x2048_S2048x96_S4x1024x96_2_0_01_1_n_n : DotDims S4x1024x2048 S2048x96 S4x1024x96 where
  lhsContracting := [2]
  rhsContracting := [0]
  lhsNonContracting := [0, 1]
  rhsNonContracting := [1]
  lhsBatch := []
  rhsBatch := []
  wf := dot_S4x1024x2048_S2048x96_S4x1024x96_2_0_01_1_n_n_wf
def dot_S4x1024x64_S64x2048_S4x1024x2048_2_0_01_1_n_n : DotDims S4x1024x64 S64x2048 S4x1024x2048 where
  lhsContracting := [2]
  rhsContracting := [0]
  lhsNonContracting := [0, 1]
  rhsNonContracting := [1]
  lhsBatch := []
  rhsBatch := []
  wf := dot_S4x1024x64_S64x2048_S4x1024x2048_2_0_01_1_n_n_wf
def fn_pad {F : FTy → Type} [FloatOps F] (arg0 : FVec F S4x1024x2048 .f32) (arg1 : IVec S_ 32) : FVec F S4x1027x2048 .f32 :=
  let v0 : FVec F S_ .f32 := sitofp .f32 arg1
  let v1 : FVec F S4x1027x2048 .f32 := (fun x v => pad S4x1027x2048 ![0, 3, 0] ![0, 0, 0] ![0, 0, 0] x v pads_S4x1024x2048_S4x1027x2048_000_300_000 h_S_) arg0 v0
  v1

def fn_silu {F : FTy → Type} [FloatOps F] (arg0 : FVec F S4x1024x2048 .f32) : FVec F S4x1024x2048 .f32 :=
  let v0 : FVec F S4x1024x2048 .f32 := Host.negf arg0
  let v1 : FVec F S4x1024x2048 .f32 := Host.exp v0
  let cst : FVec F S_ .f32 := constant S_ .f32 0x3F800000#32
  let v2 : FVec F S4x1024x2048 .f32 := broadcastInDim S4x1024x2048 ![] bcast_S_S4x1024x2048 cst
  let v3 : FVec F S4x1024x2048 .f32 := addf v2 v1
  let cst_0 : FVec F S_ .f32 := constant S_ .f32 0x3F800000#32
  let v4 : FVec F S4x1024x2048 .f32 := broadcastInDim S4x1024x2048 ![] bcast_S_S4x1024x2048 cst_0
  let v5 : FVec F S4x1024x2048 .f32 := Host.divf v4 v3
  let v6 : FVec F S4x1024x2048 .f32 := mulf arg0 v5
  v6

def fn_part3 {F : FTy → Type} [FloatOps F] (main_v15 : FVec F S2048x96 .f32) (main_v17 : FVec F S64x2048 .f32) (main_v19 : FVec F S2048 .f32) (main_v65 : FVec F S4x1024x2048 .f32) (main_v66 : FVec F S1x1x2048 .f32) : IVec S4x1024x2048 1 :=
  let main_v67 : FVec F S4x1024x2048 .f32 := broadcastInDim S4x1024x2048 ![0, 1, 2] bcast_S1x1x2048_S4x1024x2048_0_1_2 main_v66
  let main_v68 : FVec F S4x1024x2048 .f32 := addf main_v67 main_v65
  let main_v69 : FVec F S4x1024x2048 .f32 := fn_silu (F := F) main_v68
  let main_v70 : FVec F S4x1024x96 .f32 := (fun l r => Host.dotGeneral dot_S4x1024x2048_S2048x96_S4x1024x96_2_0_01_1_n_n none l r) main_v69 main_v15
  let main_v71 : FVec F S4x1024x64 .f32 := (extractStridedSlice S4x1024x64 ![0, 0, 0] · slices_S4x1024x96_S4x1024x64_0_0_0) main_v70
  let main_v72 : FVec F S4x1024x16 .f32 := (extractStridedSlice S4x1024x16 ![0, 0, 64] · slices_S4x1024x96_S4x1024x16_0_0_64) main_v70
  let main_v73 : FVec F S4x1024x16 .f32 := (extractStridedSlice S4x1024x16 ![0, 0, 80] · slices_S4x1024x96_S4x1024x16_0_0_80) main_v70
  let main_v74 : FVec F S4x1024x2048 .f32 := (fun l r => Host.dotGeneral dot_S4x1024x64_S64x2048_S4x1024x2048_2_0_01_1_n_n none l r) main_v71 main_v17
  let main_v75 : FVec F S1x1x2048 .f32 := broadcastInDim S1x1x2048 ![2] bcast_S2048_S1x1x2048_2 main_v19
  let main_v76 : FVec F S4x1024x2048 .f32 := broadcastInDim S4x1024x2048 ![0, 1, 2] bcast_S1x1x2048_S4x1024x2048_0_1_2 main_v75
  let main_v77 : FVec F S4x1024x2048 .f32 := addf main_v74 main_v76
  let main_cst_3 : FVec F S_ .f32 := constant S_ .f32 0x41A00000#32
  let main_v78 : FVec F S4x1024x2048 .f32 := broadcastInDim S4x1024x2048 ![] bcast_S_S4x1024x2048 main_cst_3
  let main_v79 : IVec S4x1024x2048 1 := cmpf .ole main_v77 main_v78
  main_v79

def fn_part2 {F : FTy → Type} [FloatOps F] (main_v11 : FVec F S2048x4 .f32) (main_v13 : FVec F S2048 .f32) (main_v15 : FVec F S2048x96 .f32) (main_v17 : FVec F S64x2048 .f32) (main_v19 : FVec F S2048 .f32) (main_v36 : FVec F S4x1027x2048 .f32) (main_v42 : FVec F S4x1024x2048 .f32) (main_cst_2 : FVec F S_ .f32) : IVec S4x1024x2048 1 :=
  let main_v43 : FVec F S4x1024x2048 .f32 := broadcastInDim S4x1024x2048 ![] bcast_S_S4x1024x2048 main_cst_2
  let main_v44 : FVec F S4x1024x2048 .f32 := addf main_v43 main_v42
  let main_v45 : FVec F S4x1024x2048 .f32 := (extractStridedSlice S4x1024x2048 ![0, 1, 0] · slices_S4x1027x2048_S4x1024x2048_0_1_0) main_v36
  let main_v46 : FVec F S2048x1 .f32 := (extractStridedSlice S2048x1 ![0, 1] · slices_S2048x4_S2048x1_0_1) main_v11
  let main_v47 : FVec F S2048 .f32 := shapeCast S2048 main_v46 shapeCasts_S2048x1_S2048
  let main_v48 : FVec F S1x1x2048 .f32 := broadcastInDim S1x1x2048 ![2] bcast_S2048_S1x1x2048_2 main_v47
  let main_v49 : FVec F S4x1024x2048 .f32 := broadcastInDim S4x1024x2048 ![0, 1, 2] bcast_S1x1x2048_S4x1024x2048_0_1_2 main_v48
  let main_v50 : FVec F S4x1024x2048 .f32 := mulf main_v45 main_v49
  let main_v51 : FVec F S4x1024x2048 .f32 := addf main_v44 main_v50
  let main_v52 : FVec F S4x1024x2048 .f32 := (extractStridedSlice S4x1024x2048 ![0, 2, 0] · slices_S4x1027x2048_S4x1024x2048_0_2_0) main_v36
  let main_v53 : FVec F S2048x1 .f32 := (extractStridedSlice S2048x1 ![0, 2] · slices_S2048x4_S2048x1_0_2) main_v11
  let main_v54 : FVec F S2048 .f32 := shapeCast S2048 main_v53 shapeCasts_S2048x1_S2048
  let main_v55 : FVec F S1x1x2048 .f32 := broadcastInDim S1x1x2048 ![2] bcast_S2048_S1x1x2048_2 main_v54
  let main_v56 : FVec F S4x1024x2048 .f32 := broadcastInDim S4x1024x2048 ![0, 1, 2] bcast_S1x1x2048_S4x1024x2048_0_1_2 main_v55
  let main_v57 : FVec F S4x1024x2048 .f32 := mulf main_v52 main_v56
  let main_v58 : FVec F S4x1024x2048 .f32 := addf main_v51 main_v57
  let main_v59 : FVec F S4x1024x2048 .f32 := (extractStridedSlice S4x1024x2048 ![0, 3, 0] · slices_S4x1027x2048_S4x1024x2048_0_3_0) main_v36
  let main_v60 : FVec F S2048x1 .f32 := (extractStridedSlice S2048x1 ![0, 3] · slices_S2048x4_S2048x1_0_3) main_v11
  let main_v61 : FVec F S2048 .f32 := shapeCast S2048 main_v60 shapeCasts_S2048x1_S2048
  let main_v62 : FVec F S1x1x2048 .f32 := broadcastInDim S1x1x2048 ![2] bcast_S2048_S1x1x2048_2 main_v61
  let main_v63 : FVec F S4x1024x2048 .f32 := broadcastInDim S4x1024x2048 ![0, 1, 2] bcast_S1x1x2048_S4x1024x2048_0_1_2 main_v62
  let main_v64 : FVec F S4x1024x2048 .f32 := mulf main_v59 main_v63
  let main_v65 : FVec F S4x1024x2048 .f32 := addf main_v58 main_v64
  let main_v66 : FVec F S1x1x2048 .f32 := broadcastInDim S1x1x2048 ![2] bcast_S2048_S1x1x2048_2 main_v13
  fn_part3 (F := F) main_v15 main_v17 main_v19 main_v65 main_v66

def fn_part1 {F : FTy → Type} [FloatOps F] (main_v5 : FVec F S4x1024x1024 .f32) (main_v7 : FVec F S1024 .f32) (main_v9 : FVec F S1024x4096 .f32) (main_v11 : FVec F S2048x4 .f32) (main_v13 : FVec F S2048 .f32) (main_v15 : FVec F S2048x96 .f32) (main_v17 : FVec F S64x2048 .f32) (main_v19 : FVec F S2048 .f32) (main_v22 : FVec F S4x1024x1 .f32) : IVec S4x1024x2048 1 :=
  let main_cst_0 : FVec F S_ .f32 := constant S_ .f32 0x44800000#32
  let main_v23 : FVec F S4x1024x1 .f32 := broadcastInDim S4x1024x1 ![] bcast_S_S4x1024x1 main_cst_0
  let main_v24 : FVec F S4x1024x1 .f32 := Host.divf main_v22 main_v23
  let main_cst_1 : FVec F S_ .f32 := constant S_ .f32 0x3727C5AC#32
  let main_v25 : FVec F S4x1024x1 .f32 := broadcastInDim S4x1024x1 ![] bcast_S_S4x1024x1 main_cst_1
  let main_v26 : FVec F S4x1024x1 .f32 := addf main_v24 main_v25
  let main_v27 : FVec F S4x1024x1 .f32 := Host.rsqrt main_v26
  let main_v28 : FVec F S4x1024x1024 .f32 := broadcastInDim S4x1024x1024 ![0, 1, 2] bcast_S4x1024x1_S4x1024x1024_0_1_2 main_v27
  let main_v29 : FVec F S4x1024x1024 .f32 := mulf main_v5 main_v28
  let main_v30 : FVec F S1x1x1024 .f32 := broadcastInDim S1x1x1024 ![2] bcast_S1024_S1x1x1024_2 main_v7
  let main_v31 : FVec F S4x1024x1024 .f32 := broadcastInDim S4x1024x1024 ![0, 1, 2] bcast_S1x1x1024_S4x1024x1024_0_1_2 main_v30
  let main_v32 : FVec F S4x1024x1024 .f32 := mulf main_v29 main_v31
  let main_v33 : FVec F S4x1024x4096 .f32 := (fun l r => Host.dotGeneral dot_S4x1024x1024_S1024x4096_S4x1024x4096_2_0_01_1_n_n none l r) main_v32 main_v9
  let main_v34 : FVec F S4x1024x2048 .f32 := (extractStridedSlice S4x1024x2048 ![0, 0, 0] · slices_S4x1024x4096_S4x1024x2048_0_0_0) main_v33
  let main_v35 : FVec F S4x1024x2048 .f32 := (extractStridedSlice S4x1024x2048 ![0, 0, 2048] · slices_S4x1024x4096_S4x1024x2048_0_0_2048) main_v33
  let main_c : IVec S_ 32 := constantI S_ 32 0#32
  let main_v36 : FVec F S4x1027x2048 .f32 := fn_pad (F := F) main_v34 main_c
  let main_v37 : FVec F S4x1024x2048 .f32 := (extractStridedSlice S4x1024x2048 ![0, 0, 0] · slices_S4x1027x2048_S4x1024x2048_0_0_0) main_v36
  let main_v38 : FVec F S2048x1 .f32 := (extractStridedSlice S2048x1 ![0, 0] · slices_S2048x4_S2048x1_0_0) main_v11
  let main_v39 : FVec F S2048 .f32 := shapeCast S2048 main_v38 shapeCasts_S2048x1_S2048
  let main_v40 : FVec F S1x1x2048 .f32 := broadcastInDim S1x1x2048 ![2] bcast_S2048_S1x1x2048_2 main_v39
  let main_v41 : FVec F S4x1024x2048 .f32 := broadcastInDim S4x1024x2048 ![0, 1, 2] bcast_S1x1x2048_S4x1024x2048_0_1_2 main_v40
  let main_v42 : FVec F S4x1024x2048 .f32 := mulf main_v37 main_v41
  let main_cst_2 : FVec F S_ .f32 := constant S_ .f32 0x00000000#32
  fn_part2 (F := F) main_v11 main_v13 main_v15 main_v17 main_v19 main_v36 main_v42 main_cst_2

def fn {F : FTy → Type} [FloatOps F] (main_arg0 : FVec F S4096x1024 .f32) (main_arg1 : FVec F S4096x2048 .bf16) (main_arg2 : FVec F S2x2048x1024 .f32) (main_arg3 : FVec F S2x1024 .f32) (main_arg4 : FVec F S2x1024x4096 .f32) (main_arg5 : FVec F S2x2048x4 .f32) (main_arg6 : FVec F S2x2048 .f32) (main_arg7 : FVec F S2x2048x96 .f32) (main_arg8 : FVec F S2x64x2048 .f32) (main_arg9 : FVec F S2x2048 .f32) (main_arg10 : FVec F S2x2048x16 .f32) (main_arg11 : FVec F S2x2048 .f32) : IVec S4x1024x2048 1 :=
  let main_v0 : FVec F S4096x2048 .f32 := (extf .f32 · bitsLt_bf16_f32) main_arg1
  let main_v1 : FVec F S1x2048x1024 .f32 := (extractStridedSlice S1x2048x1024 ![0, 0, 0] · slices_S2x2048x1024_S1x2048x1024_0_0_0) main_arg2
  let main_v2 : FVec F S2048x1024 .f32 := shapeCast S2048x1024 main_v1 shapeCasts_S1x2048x1024_S2048x1024
  let main_v3 : FVec F S4096x1024 .f32 := (fun l r => Host.dotGeneral dot_S4096x2048_S2048x1024_S4096x1024_1_0_0_1_n_n none l r) main_v0 main_v2
  let main_v4 : FVec F S4096x1024 .f32 := addf main_arg0 main_v3
  let main_v5 : FVec F S4x1024x1024 .f32 := shapeCast S4x1024x1024 main_v4 shapeCasts_S4096x1024_S4x1024x1024
  let main_v6 : FVec F S1x1024 .f32 := (extractStridedSlice S1x1024 ![1, 0] · slices_S2x1024_S1x1024_1_0) main_arg3
  let main_v7 : FVec F S1024 .f32 := shapeCast S1024 main_v6 shapeCasts_S1x1024_S1024
  let main_v8 : FVec F S1x1024x4096 .f32 := (extractStridedSlice S1x1024x4096 ![1, 0, 0] · slices_S2x1024x4096_S1x1024x4096_1_0_0) main_arg4
  let main_v9 : FVec F S1024x4096 .f32 := shapeCast S1024x4096 main_v8 shapeCasts_S1x1024x4096_S1024x4096
  let main_v10 : FVec F S1x2048x4 .f32 := (extractStridedSlice S1x2048x4 ![1, 0, 0] · slices_S2x2048x4_S1x2048x4_1_0_0) main_arg5
  let main_v11 : FVec F S2048x4 .f32 := shapeCast S2048x4 main_v10 shapeCasts_S1x2048x4_S2048x4
  let main_v12 : FVec F S1x2048 .f32 := (extractStridedSlice S1x2048 ![1, 0] · slices_S2x2048_S1x2048_1_0) main_arg6
  let main_v13 : FVec F S2048 .f32 := shapeCast S2048 main_v12 shapeCasts_S1x2048_S2048
  let main_v14 : FVec F S1x2048x96 .f32 := (extractStridedSlice S1x2048x96 ![1, 0, 0] · slices_S2x2048x96_S1x2048x96_1_0_0) main_arg7
  let main_v15 : FVec F S2048x96 .f32 := shapeCast S2048x96 main_v14 shapeCasts_S1x2048x96_S2048x96
  let main_v16 : FVec F S1x64x2048 .f32 := (extractStridedSlice S1x64x2048 ![1, 0, 0] · slices_S2x64x2048_S1x64x2048_1_0_0) main_arg8
  let main_v17 : FVec F S64x2048 .f32 := shapeCast S64x2048 main_v16 shapeCasts_S1x64x2048_S64x2048
  let main_v18 : FVec F S1x2048 .f32 := (extractStridedSlice S1x2048 ![1, 0] · slices_S2x2048_S1x2048_1_0) main_arg9
  let main_v19 : FVec F S2048 .f32 := shapeCast S2048 main_v18 shapeCasts_S1x2048_S2048
  let main_v20 : FVec F S4x1024x1024 .f32 := mulf main_v5 main_v5
  let main_cst : FVec F S_ .f32 := constant S_ .f32 0x00000000#32
  let main_v21 : FVec F S4x1024 .f32 := (fun x v => Host.reduceAdd x v reducesTo_S4x1024x1024_S4x1024_d2 h_S_) main_v20 main_cst
  let main_v22 : FVec F S4x1024x1 .f32 := broadcastInDim S4x1024x1 ![0, 1] bcast_S4x1024_S4x1024x1_0_1 main_v21
  fn_part1 (F := F) main_v5 main_v7 main_v9 main_v11 main_v13 main_v15 main_v17 main_v19 main_v22
-- ==== Head.lean ====
abbrev S4096x1024 : Shape := ⟨2, ![4096, 1024]⟩
abbrev S32000x1024 : Shape := ⟨2, ![32000, 1024]⟩
abbrev S1024x32000 : Shape := ⟨2, ![1024, 32000]⟩
abbrev S4096x32000 : Shape := ⟨2, ![4096, 32000]⟩
abbrev S512x1024 : Shape := ⟨2, ![512, 1024]⟩
abbrev S1024x3200 : Shape := ⟨2, ![1024, 3200]⟩
abbrev S512x3200 : Shape := ⟨2, ![512, 3200]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S32000x1024, .f32⟩
  | .hbm, ⟨2, _⟩ => ⟨S1024x32000, .f32⟩
  | .hbm, ⟨3, _⟩ => ⟨S1024x32000, .bf16⟩
  | .hbm, ⟨4, _⟩ => ⟨S4096x32000, .f32⟩
  | .local _ .vmem, ⟨0, _⟩ => ⟨S512x1024, .bf16⟩
  | .local _ .vmem, ⟨1, _⟩ => ⟨S512x1024, .bf16⟩
  | .local _ .vmem, ⟨2, _⟩ => ⟨S1024x3200, .bf16⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefHeadIdeal.lean ====
abbrev S4096x1024 : Shape := ⟨2, ![4096, 1024]⟩
abbrev S32000x1024 : Shape := ⟨2, ![32000, 1024]⟩
abbrev S1024x32000 : Shape := ⟨2, ![1024, 32000]⟩
abbrev S4096x32000 : Shape := ⟨2, ![4096, 32000]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S32000x1024, .f32⟩
  | .hbm, ⟨2, _⟩ => ⟨S4096x1024, .f32⟩
  | .hbm, ⟨3, _⟩ => ⟨S1024x32000, .f32⟩
  | .hbm, ⟨4, _⟩ => ⟨S4096x32000, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Final.lean ====
abbrev S4096x1024 : Shape := ⟨2, ![4096, 1024]⟩
abbrev S4096x2048 : Shape := ⟨2, ![4096, 2048]⟩
abbrev S2x2048x1024 : Shape := ⟨3, ![2, 2048, 1024]⟩
abbrev S1024 : Shape := ⟨1, ![1024]⟩
abbrev S1x2048x1024 : Shape := ⟨3, ![1, 2048, 1024]⟩
abbrev S2048x1024 : Shape := ⟨2, ![2048, 1024]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S2x2048x1024, .f32⟩
  | .hbm, ⟨3, _⟩ => ⟨S1024, .f32⟩
  | .hbm, ⟨4, _⟩ => ⟨S1x2048x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S2048x1024, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefFinalIdeal.lean ====
abbrev S4096x1024 : Shape := ⟨2, ![4096, 1024]⟩
abbrev S4096x2048 : Shape := ⟨2, ![4096, 2048]⟩
abbrev S2x2048x1024 : Shape := ⟨3, ![2, 2048, 1024]⟩
abbrev S1024 : Shape := ⟨1, ![1024]⟩
abbrev S1x2048x1024 : Shape := ⟨3, ![1, 2048, 1024]⟩
abbrev S2048x1024 : Shape := ⟨2, ![2048, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S2x2048x1024, .f32⟩
  | .hbm, ⟨3, _⟩ => ⟨S1024, .f32⟩
  | .hbm, ⟨4, _⟩ => ⟨S4096x2048, .f32⟩
  | .hbm, ⟨5, _⟩ => ⟨S1x2048x1024, .f32⟩
  | .hbm, ⟨6, _⟩ => ⟨S2048x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Mid.lean ====
abbrev S4096x1024 : Shape := ⟨2, ![4096, 1024]⟩
abbrev S4096x2048 : Shape := ⟨2, ![4096, 2048]⟩
abbrev S2x2048x1024 : Shape := ⟨3, ![2, 2048, 1024]⟩
abbrev S2x1024 : Shape := ⟨2, ![2, 1024]⟩
abbrev S2x1024x4096 : Shape := ⟨3, ![2, 1024, 4096]⟩
abbrev S2x2048x4 : Shape := ⟨3, ![2, 2048, 4]⟩
abbrev S2x2048 : Shape := ⟨2, ![2, 2048]⟩
abbrev S2x2048x96 : Shape := ⟨3, ![2, 2048, 96]⟩
abbrev S2x64x2048 : Shape := ⟨3, ![2, 64, 2048]⟩
abbrev S2x2048x16 : Shape := ⟨3, ![2, 2048, 16]⟩
abbrev S1x2048x1024 : Shape := ⟨3, ![1, 2048, 1024]⟩
abbrev S2048x1024 : Shape := ⟨2, ![2048, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x2048x4 : Shape := ⟨3, ![1, 2048, 4]⟩
abbrev S2048x4 : Shape := ⟨2, ![2048, 4]⟩
abbrev S4x2048 : Shape := ⟨2, ![4, 2048]⟩
abbrev S1x2048 : Shape := ⟨2, ![1, 2048]⟩
abbrev S2048 : Shape := ⟨1, ![2048]⟩
abbrev S1x2048x96 : Shape := ⟨3, ![1, 2048, 96]⟩
abbrev S2048x96 : Shape := ⟨2, ![2048, 96]⟩
abbrev S1x64x2048 : Shape := ⟨3, ![1, 64, 2048]⟩
abbrev S64x2048 : Shape := ⟨2, ![64, 2048]⟩
abbrev S1x2048x16 : Shape := ⟨3, ![1, 2048, 16]⟩
abbrev S2048x16 : Shape := ⟨2, ![2048, 16]⟩
abbrev S16x2048 : Shape := ⟨2, ![16, 2048]⟩
abbrev S256x1024 : Shape := ⟨2, ![256, 1024]⟩
abbrev S256x2048 : Shape := ⟨2, ![256, 2048]⟩
abbrev S264x2048 : Shape := ⟨2, ![264, 2048]⟩
abbrev S256x96 : Shape := ⟨2, ![256, 96]⟩
abbrev S8x2048 : Shape := ⟨2, ![8, 2048]⟩
abbrev S2x128x2048 : Shape := ⟨3, ![2, 128, 2048]⟩
abbrev S256 : Shape := ⟨1, ![256]⟩
abbrev S256x1 : Shape := ⟨2, ![256, 1]⟩
abbrev S256x4096 : Shape := ⟨2, ![256, 4096]⟩
abbrev S256x64 : Shape := ⟨2, ![256, 64]⟩
abbrev S16x96 : Shape := ⟨2, ![16, 96]⟩
abbrev S8x128 : Shape := ⟨2, ![8, 128]⟩
abbrev S1x96 : Shape := ⟨2, ![1, 96]⟩
abbrev S16 : Shape := ⟨1, ![16]⟩
abbrev S16x1 : Shape := ⟨2, ![16, 1]⟩
abbrev S1x16x2048 : Shape := ⟨3, ![1, 16, 2048]⟩
abbrev S1x128x2048 : Shape := ⟨3, ![1, 128, 2048]⟩
abbrev S128x2048 : Shape := ⟨2, ![128, 2048]⟩

abbrev nBuf : Space → Nat
  | .hbm => 44
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S2x2048x1024, .f32⟩
  | .hbm, ⟨3, _⟩ => ⟨S2x1024, .f32⟩
  | .hbm, ⟨4, _⟩ => ⟨S2x1024x4096, .f32⟩
  | .hbm, ⟨5, _⟩ => ⟨S2x2048x4, .f32⟩
  | .hbm, ⟨6, _⟩ => ⟨S2x2048, .f32⟩
  | .hbm, ⟨7, _⟩ => ⟨S2x2048x96, .f32⟩
  | .hbm, ⟨8, _⟩ => ⟨S2x64x2048, .f32⟩
  | .hbm, ⟨9, _⟩ => ⟨S2x2048, .f32⟩
  | .hbm, ⟨10, _⟩ => ⟨S2x2048x16, .f32⟩
  | .hbm, ⟨11, _⟩ => ⟨S2x2048, .f32⟩
  | .hbm, ⟨12, _⟩ => ⟨S1x2048x1024, .f32⟩
  | .hbm, ⟨13, _⟩ => ⟨S2048x1024, .f32⟩
  | .hbm, ⟨14, _⟩ => ⟨S2048x1024, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024x4096, .f32⟩
  | .hbm, ⟨19, _⟩ => ⟨S1024x4096, .f32⟩
  | .hbm, ⟨20, _⟩ => ⟨S1024x4096, .bf16⟩
  | .hbm, ⟨21, _⟩ => ⟨S1x2048x4, .f32⟩
  | .hbm, ⟨22, _⟩ => ⟨S2048x4, .f32⟩
  | .hbm, ⟨23, _⟩ => ⟨S4x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S1x2048x96, .f32⟩
  | .hbm, ⟨28, _⟩ => ⟨S2048x96, .f32⟩
  | .hbm, ⟨29, _⟩ => ⟨S2048x96, .bf16⟩
  | .hbm, ⟨30, _⟩ => ⟨S1x64x2048, .f32⟩
  | .hbm, ⟨31, _⟩ => ⟨S64x2048, .f32⟩
  | .hbm, ⟨32, _⟩ => ⟨S64x2048, .bf16⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S1x2048x16, .f32⟩
  | .hbm, ⟨37, _⟩ => ⟨S2048x16, .f32⟩
  | .hbm, ⟨38, _⟩ => ⟨S16x2048, .f32⟩
  | .hbm, ⟨39, _⟩ => ⟨S1x2048, .f32⟩
  | .hbm, ⟨40, _⟩ => ⟨S2048, .f32⟩
  | .hbm, ⟨41, _⟩ => ⟨S1x2048, .f32⟩
  | .hbm, ⟨42, _⟩ => ⟨S4096x1024, .f32⟩
  | .hbm, ⟨43, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S2048x1024, .bf16⟩
  | .local _ .vmem, ⟨5, _⟩ => ⟨S1x1024, .f32⟩
  | .local _ .vmem, ⟨6, _⟩ => ⟨S1024x4096, .bf16⟩
  | .local _ .vmem, ⟨7, _⟩ => ⟨S4x2048, .f32⟩
  | .local _ .vmem, ⟨8, _⟩ => ⟨S1x2048, .f32⟩
  | .local _ .vmem, ⟨9, _⟩ => ⟨S2048x96, .bf16⟩
  | .local _ .vmem, ⟨10, _⟩ => ⟨S64x2048, .bf16⟩
  | .local _ .vmem, ⟨11, _⟩ => ⟨S1x2048, .f32⟩
  | .local _ .vmem, ⟨12, _⟩ => ⟨S16x2048, .f32⟩
  | .local _ .vmem, ⟨13, _⟩ => ⟨S1x2048, .f32⟩
  | .local _ .vmem, ⟨14, _⟩ => ⟨S256x1024, .f32⟩
  | .local _ .vmem, ⟨15, _⟩ => ⟨S256x1024, .f32⟩
  | .local _ .vmem, ⟨16, _⟩ => ⟨S256x2048, .bf16⟩
  | .local _ .vmem, ⟨17, _⟩ => ⟨S256x2048, .bf16⟩
  | .local _ .vmem, ⟨18, _⟩ => ⟨S264x2048, .f32⟩
  | .local _ .vmem, ⟨19, _⟩ => ⟨S256x2048, .f32⟩
  | .local _ .vmem, ⟨20, _⟩ => ⟨S256x2048, .f32⟩
  | .local _ .vmem, ⟨21, _⟩ => ⟨S256x96, .f32⟩
  | .local _ .vmem, ⟨22, _⟩ => ⟨S256x2048, .f32⟩
  | .local _ .vmem, ⟨23, _⟩ => ⟨S16x2048, .f32⟩
  | .local _ .vmem, ⟨24, _⟩ => ⟨S8x2048, .f32⟩
  | .local _ .vmem, ⟨25, _⟩ => ⟨S16x2048, .f32⟩
  | .local _ .vmem, ⟨26, _⟩ => ⟨S2x128x2048, .bf16⟩
  | .local _ .vmem, ⟨27, _⟩ => ⟨S256x2048, .f32⟩
  | .local _ .vmem, ⟨28, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_63 : BitVec 32 := 0#32
  let c16_i32_64 : BitVec 32 := 16#32
  let v145 : BitVec 32 := Scalar.addi c0_i32_63 c16_i32_64
  let c1_i32_65 : BitVec 32 := 1#32
  ⟨c0_i32_63, v145, c1_i32_65⟩
def k0_off1 (k0_t1 : Fin k0_t1_loop.trips) (c0_i32_77 : BitVec 32) : Fin 2 → Nat :=
  let c0_i32_63 : BitVec 32 := 0#32
  let c1_i32_65 : BitVec 32 := 1#32
  let arg27 : BitVec 32 := Scf.iv c0_i32_63 c1_i32_65 k0_t1
  let c2_i32 : BitVec 32 := 2#32
  let v159 : BitVec 32 := Scalar.muli arg27 c2_i32
  let c8_i32 : BitVec 32 := 8#32
  let v160 : BitVec 32 := Scalar.muli v159 c8_i32
  let v161 : BitVec 32 := Scalar.addi v160 c0_i32_77
  let v162 : Index := Scalar.indexCast v161
  let c0_78 : Index := 0#32
  ![v162.toNat, 0]
def k0_off2 (k0_t1 : Fin k0_t1_loop.trips) (c0_i32_77 : BitVec 32) : Fin 2 → Nat :=
  let c0_i32_63 : BitVec 32 := 0#32
  let c1_i32_65 : BitVec 32 := 1#32
  let arg27 : BitVec 32 := Scf.iv c0_i32_63 c1_i32_65 k0_t1
  let c2_i32 : BitVec 32 := 2#32
  let v159 : BitVec 32 := Scalar.muli arg27 c2_i32
  let c8_i32 : BitVec 32 := 8#32
  let v160 : BitVec 32 := Scalar.muli v159 c8_i32
  let v161 : BitVec 32 := Scalar.addi v160 c0_i32_77
  let v166 : Index := Scalar.indexCast v161
  let c0_80 : Index := 0#32
  ![v166.toNat, 0]
def k0_mult1 (k0_t1 : Fin k0_t1_loop.trips) : BitVec 32 :=
  let c0_i32_63 : BitVec 32 := 0#32
  let c1_i32_65 : BitVec 32 := 1#32
  let arg27 : BitVec 32 := Scf.iv c0_i32_63 c1_i32_65 k0_t1
  let c2_i32 : BitVec 32 := 2#32
  let v159 : BitVec 32 := Scalar.muli arg27 c2_i32
  let c8_i32_212 : BitVec 32 := 8#32
  let v459 : BitVec 32 := Scalar.muli v159 c8_i32_212
  v459
def k0_off3 (k0_t1 : Fin k0_t1_loop.trips) : Fin 2 → Nat :=
  let c0_i32_63 : BitVec 32 := 0#32
  let c1_i32_65 : BitVec 32 := 1#32
  let arg27 : BitVec 32 := Scf.iv c0_i32_63 c1_i32_65 k0_t1
  let c2_i32 : BitVec 32 := 2#32
  let v159 : BitVec 32 := Scalar.muli arg27 c2_i32
  let c8_i32_212 : BitVec 32 := 8#32
  let v459 : BitVec 32 := Scalar.muli v159 c8_i32_212
  let v460 : BitVec 32 := v459
  let v461 : Index := Scalar.indexCast v460
  let c0_213 : Index := 0#32
  ![v461.toNat, 0]
def k0_off4 (k0_t1 : Fin k0_t1_loop.trips) (c0_i32_216 : BitVec 32) : Fin 2 → Nat :=
  let c0_i32_63 : BitVec 32 := 0#32
  let c1_i32_65 : BitVec 32 := 1#32
  let arg27 : BitVec 32 := Scf.iv c0_i32_63 c1_i32_65 k0_t1
  let c2_i32 : BitVec 32 := 2#32
  let v159 : BitVec 32 := Scalar.muli arg27 c2_i32
  let c1_i32_214 : BitVec 32 := 1#32
  let v465 : BitVec 32 := Scalar.addi v159 c1_i32_214
  let c8_i32_215 : BitVec 32 := 8#32
  let v466 : BitVec 32 := Scalar.muli v465 c8_i32_215
  let v467 : BitVec 32 := Scalar.addi v466 c0_i32_216
  let v468 : Index := Scalar.indexCast v467
  let c0_217 : Index := 0#32
  ![v468.toNat, 0]
def k0_off5 (k0_t1 : Fin k0_t1_loop.trips) (c0_i32_216 : BitVec 32) : Fin 2 → Nat :=
  let c0_i32_63 : BitVec 32 := 0#32
  let c1_i32_65 : BitVec 32 := 1#32
  let arg27 : BitVec 32 := Scf.iv c0_i32_63 c1_i32_65 k0_t1
  let c2_i32 : BitVec 32 := 2#32
  let v159 : BitVec 32 := Scalar.muli arg27 c2_i32
  let c1_i32_214 : BitVec 32 := 1#32
  let v465 : BitVec 32 := Scalar.addi v159 c1_i32_214
  let c8_i32_215 : BitVec 32 := 8#32
  let v466 : BitVec 32 := Scalar.muli v465 c8_i32_215
  let v467 : BitVec 32 := Scalar.addi v466 c0_i32_216
  let v472 : Index := Scalar.indexCast v467
  let c0_219 : Index := 0#32
  ![v472.toNat, 0]
def k0_mult2 (k0_t1 : Fin k0_t1_loop.trips) : BitVec 32 :=
  let c0_i32_63 : BitVec 32 := 0#32
  let c1_i32_65 : BitVec 32 := 1#32
  let arg27 : BitVec 32 := Scf.iv c0_i32_63 c1_i32_65 k0_t1
  let c2_i32 : BitVec 32 := 2#32
  let v159 : BitVec 32 := Scalar.muli arg27 c2_i32
  let c1_i32_359 : BitVec 32 := 1#32
  let v762 : BitVec 32 := Scalar.addi v159 c1_i32_359
  let c8_i32_364 : BitVec 32 := 8#32
  let v766 : BitVec 32 := Scalar.muli v762 c8_i32_364
  v766
def k0_off6 (k0_t1 : Fin k0_t1_loop.trips) : Fin 2 → Nat :=
  let c0_i32_63 : BitVec 32 := 0#32
  let c1_i32_65 : BitVec 32 := 1#32
  let arg27 : BitVec 32 := Scf.iv c0_i32_63 c1_i32_65 k0_t1
  let c2_i32 : BitVec 32 := 2#32
  let v159 : BitVec 32 := Scalar.muli arg27 c2_i32
  let c1_i32_359 : BitVec 32 := 1#32
  let v762 : BitVec 32 := Scalar.addi v159 c1_i32_359
  let c8_i32_364 : BitVec 32 := 8#32
  let v766 : BitVec 32 := Scalar.muli v762 c8_i32_364
  let v767 : BitVec 32 := v766
  let v768 : Index := Scalar.indexCast v767
  let c0_365 : Index := 0#32
  ![v768.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== RefMidIdeal.lean ====
abbrev S4096x1024 : Shape := ⟨2, ![4096, 1024]⟩
abbrev S4096x2048 : Shape := ⟨2, ![4096, 2048]⟩
abbrev S2x2048x1024 : Shape := ⟨3, ![2, 2048, 1024]⟩
abbrev S2x1024 : Shape := ⟨2, ![2, 1024]⟩
abbrev S2x1024x4096 : Shape := ⟨3, ![2, 1024, 4096]⟩
abbrev S2x2048x4 : Shape := ⟨3, ![2, 2048, 4]⟩
abbrev S2x2048 : Shape := ⟨2, ![2, 2048]⟩
abbrev S2x2048x96 : Shape := ⟨3, ![2, 2048, 96]⟩
abbrev S2x64x2048 : Shape := ⟨3, ![2, 64, 2048]⟩
abbrev S2x2048x16 : Shape := ⟨3, ![2, 2048, 16]⟩
abbrev S1x2048x1024 : Shape := ⟨3, ![1, 2048, 1024]⟩
abbrev S2048x1024 : Shape := ⟨2, ![2048, 1024]⟩
abbrev S4x1024x1024 : Shape := ⟨3, ![4, 1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x2048x4 : Shape := ⟨3, ![1, 2048, 4]⟩
abbrev S2048x4 : Shape := ⟨2, ![2048, 4]⟩
abbrev S1x2048 : Shape := ⟨2, ![1, 2048]⟩
abbrev S2048 : Shape := ⟨1, ![2048]⟩
abbrev S1x2048x96 : Shape := ⟨3, ![1, 2048, 96]⟩
abbrev S2048x96 : Shape := ⟨2, ![2048, 96]⟩
abbrev S1x64x2048 : Shape := ⟨3, ![1, 64, 2048]⟩
abbrev S64x2048 : Shape := ⟨2, ![64, 2048]⟩
abbrev S1x2048x16 : Shape := ⟨3, ![1, 2048, 16]⟩
abbrev S2048x16 : Shape := ⟨2, ![2048, 16]⟩
abbrev S_ : Shape := ⟨0, ![]⟩
abbrev S4x1024 : Shape := ⟨2, ![4, 1024]⟩
abbrev S4x1024x1 : Shape := ⟨3, ![4, 1024, 1]⟩
abbrev S1x1x1024 : Shape := ⟨3, ![1, 1, 1024]⟩
abbrev S4x1024x4096 : Shape := ⟨3, ![4, 1024, 4096]⟩
abbrev S4x1024x2048 : Shape := ⟨3, ![4, 1024, 2048]⟩
abbrev S4x1027x2048 : Shape := ⟨3, ![4, 1027, 2048]⟩
abbrev S2048x1 : Shape := ⟨2, ![2048, 1]⟩
abbrev S1x1x2048 : Shape := ⟨3, ![1, 1, 2048]⟩
abbrev S4x1024x96 : Shape := ⟨3, ![4, 1024, 96]⟩
abbrev S4x1024x64 : Shape := ⟨3, ![4, 1024, 64]⟩
abbrev S4x1024x16 : Shape := ⟨3, ![4, 1024, 16]⟩
abbrev S4x2048x16 : Shape := ⟨3, ![4, 2048, 16]⟩
abbrev S1024x4x2048 : Shape := ⟨3, ![1024, 4, 2048]⟩
abbrev S1024x4x16 : Shape := ⟨3, ![1024, 4, 16]⟩
abbrev S1x4x2048 : Shape := ⟨3, ![1, 4, 2048]⟩
abbrev S4x2048 : Shape := ⟨2, ![4, 2048]⟩
abbrev S1x4x16 : Shape := ⟨3, ![1, 4, 16]⟩
abbrev S4x16 : Shape := ⟨2, ![4, 16]⟩
abbrev S4x2048x1 : Shape := ⟨3, ![4, 2048, 1]⟩
abbrev S4x1x16 : Shape := ⟨3, ![4, 1, 16]⟩

abbrev nBuf : Space → Nat
  | .hbm => 197
  | .vmem => 0
  | .smem => 0
  | _ => 0

abbrev hbmTy0_0 (i : Nat) : BufTy := match i % 128 with
  | 0 => ⟨S4096x1024, .f32⟩
  | 1 => ⟨S4096x2048, .bf16⟩
  | 2 => ⟨S2x2048x1024, .f32⟩
  | 3 => ⟨S2x1024, .f32⟩
  | 4 => ⟨S2x1024x4096, .f32⟩
  | 5 => ⟨S2x2048x4, .f32⟩
  | 6 => ⟨S2x2048, .f32⟩
  | 7 => ⟨S2x2048x96, .f32⟩
  | 8 => ⟨S2x64x2048, .f32⟩
  | 9 => ⟨S2x2048, .f32⟩
  | 10 => ⟨S2x2048x16, .f32⟩
  | 11 => ⟨S2x2048, .f32⟩
  | 12 => ⟨S4096x2048, .f32⟩
  | 13 => ⟨S1x2048x1024, .f32⟩
  | 14 => ⟨S2048x1024, .f32⟩
  | 15 => ⟨S4096x1024, .f32⟩
  | 16 => ⟨S4096x1024, .f32⟩
  | 17 => ⟨S4x1024x1024, .f32⟩
  | 18 => ⟨S1x1024, .f32⟩
  | 19 => ⟨S1024, .f32⟩
  | 20 => ⟨S1x1024x4096, .f32⟩
  | 21 => ⟨S1024x4096, .f32⟩
  | 22 => ⟨S1x2048x4, .f32⟩
  | 23 => ⟨S2048x4, .f32⟩
  | 24 => ⟨S1x2048, .f32⟩
  | 25 => ⟨S2048, .f32⟩
  | 26 => ⟨S1x2048x96, .f32⟩
  | 27 => ⟨S2048x96, .f32⟩
  | 28 => ⟨S1x64x2048, .f32⟩
  | 29 => ⟨S64x2048, .f32⟩
  | 30 => ⟨S1x2048, .f32⟩
  | 31 => ⟨S2048, .f32⟩
  | 32 => ⟨S1x2048x16, .f32⟩
  | 33 => ⟨S2048x16, .f32⟩
  | 34 => ⟨S1x2048, .f32⟩
  | 35 => ⟨S2048, .f32⟩
  | 36 => ⟨S4x1024x1024, .f32⟩
  | 37 => ⟨S_, .f32⟩
  | 38 => ⟨S4x1024, .f32⟩
  | 39 => ⟨S4x1024x1, .f32⟩
  | 40 => ⟨S_, .f32⟩
  | 41 => ⟨S4x1024x1, .f32⟩
  | 42 => ⟨S4x1024x1, .f32⟩
  | 43 => ⟨S_, .f32⟩
  | 44 => ⟨S4x1024x1, .f32⟩
  | 45 => ⟨S4x1024x1, .f32⟩
  | 46 => ⟨S4x1024x1, .f32⟩
  | 47 => ⟨S4x1024x1024, .f32⟩
  | 48 => ⟨S4x1024x1024, .f32⟩
  | 49 => ⟨S1x1x1024, .f32⟩
  | 50 => ⟨S4x1024x1024, .f32⟩
  | 51 => ⟨S4x1024x1024, .f32⟩
  | 52 => ⟨S4x1024x4096, .f32⟩
  | 53 => ⟨S4x1024x2048, .f32⟩
  | 54 => ⟨S4x1024x2048, .f32⟩
  | 55 => ⟨S_, .i32⟩
  | 56 => ⟨S_, .f32⟩
  | 57 => ⟨S4x1027x2048, .f32⟩
  | 58 => ⟨S4x1024x2048, .f32⟩
  | 59 => ⟨S2048x1, .f32⟩
  | 60 => ⟨S2048, .f32⟩
  | 61 => ⟨S1x1x2048, .f32⟩
  | 62 => ⟨S4x1024x2048, .f32⟩
  | 63 => ⟨S4x1024x2048, .f32⟩
  | 64 => ⟨S_, .f32⟩
  | 65 => ⟨S4x1024x2048, .f32⟩
  | 66 => ⟨S4x1024x2048, .f32⟩
  | 67 => ⟨S4x1024x2048, .f32⟩
  | 68 => ⟨S2048x1, .f32⟩
  | 69 => ⟨S2048, .f32⟩
  | 70 => ⟨S1x1x2048, .f32⟩
  | 71 => ⟨S4x1024x2048, .f32⟩
  | 72 => ⟨S4x1024x2048, .f32⟩
  | 73 => ⟨S4x1024x2048, .f32⟩
  | 74 => ⟨S4x1024x2048, .f32⟩
  | 75 => ⟨S2048x1, .f32⟩
  | 76 => ⟨S2048, .f32⟩
  | 77 => ⟨S1x1x2048, .f32⟩
  | 78 => ⟨S4x1024x2048, .f32⟩
  | 79 => ⟨S4x1024x2048, .f32⟩
  | 80 => ⟨S4x1024x2048, .f32⟩
  | 81 => ⟨S4x1024x2048, .f32⟩
  | 82 => ⟨S2048x1, .f32⟩
  | 83 => ⟨S2048, .f32⟩
  | 84 => ⟨S1x1x2048, .f32⟩
  | 85 => ⟨S4x1024x2048, .f32⟩
  | 86 => ⟨S4x1024x2048, .f32⟩
  | 87 => ⟨S4x1024x2048, .f32⟩
  | 88 => ⟨S1x1x2048, .f32⟩
  | 89 => ⟨S4x1024x2048, .f32⟩
  | 90 => ⟨S4x1024x2048, .f32⟩
  | 91 => ⟨S4x1024x2048, .f32⟩
  | 92 => ⟨S4x1024x2048, .f32⟩
  | 93 => ⟨S_, .f32⟩
  | 94 => ⟨S4x1024x2048, .f32⟩
  | 95 => ⟨S4x1024x2048, .f32⟩
  | 96 => ⟨S_, .f32⟩
  | 97 => ⟨S4x1024x2048, .f32⟩
  | 98 => ⟨S4x1024x2048, .f32⟩
  | 99 => ⟨S4x1024x2048, .f32⟩
  | 100 => ⟨S4x1024x96, .f32⟩
  | 101 => ⟨S4x1024x64, .f32⟩
  | 102 => ⟨S4x1024x16, .f32⟩
  | 103 => ⟨S4x1024x16, .f32⟩
  | 104 => ⟨S4x1024x2048, .f32⟩
  | 105 => ⟨S1x1x2048, .f32⟩
  | 106 => ⟨S4x1024x2048, .f32⟩
  | 107 => ⟨S4x1024x2048, .f32⟩
  | 108 => ⟨S_, .f32⟩
  | 109 => ⟨S4x1024x2048, .f32⟩
  | 110 => ⟨S4x1024x2048, .f32⟩
  | 111 => ⟨S4x1024x2048, .f32⟩
  | 112 => ⟨S4x1024x2048, .f32⟩
  | 113 => ⟨S4x1024x2048, .i1⟩
  | 114 => ⟨S4x1024x2048, .f32⟩
  | 115 => ⟨S4x1024x2048, .f32⟩
  | 116 => ⟨S4x1024x2048, .f32⟩
  | 117 => ⟨S4x1024x2048, .f32⟩
  | 118 => ⟨S4x1024x2048, .f32⟩
  | 119 => ⟨S4x1024x2048, .f32⟩
  | 120 => ⟨S4x1024x2048, .f32⟩
  | 121 => ⟨S4x1024x2048, .f32⟩
  | 122 => ⟨S2048x16, .f32⟩
  | 123 => ⟨S2048x16, .f32⟩
  | 124 => ⟨S_, .f32⟩
  | 125 => ⟨S4x2048x16, .f32⟩
  | 126 => ⟨S1024x4x2048, .f32⟩
  | 127 => ⟨S1024x4x2048, .f32⟩
  | _ => ⟨S4096x1024, .f32⟩

abbrev hbmTy0_1 (i : Nat) : BufTy := match i % 128 with
  | 0 => ⟨S1024x4x16, .f32⟩
  | 1 => ⟨S1024x4x16, .f32⟩
  | 2 => ⟨S_, .f32⟩
  | 3 => ⟨S1024x4x2048, .f32⟩
  | 4 => ⟨S_, .i32⟩
  | 5 => ⟨S1024x4x2048, .f32⟩
  | 6 => ⟨S1024x4x2048, .f32⟩
  | 7 => ⟨S1024x4x16, .f32⟩
  | 8 => ⟨S1024x4x16, .f32⟩
  | 9 => ⟨S2048x16, .f32⟩
  | 10 => ⟨S_, .i32⟩
  | 11 => ⟨S4x2048x16, .f32⟩
  | 12 => ⟨S1024x4x2048, .f32⟩
  | 13 => ⟨S_, .i32⟩
  | 14 => ⟨S_, .i1⟩
  | 15 => ⟨S_, .i32⟩
  | 16 => ⟨S_, .i32⟩
  | 17 => ⟨S1x4x2048, .f32⟩
  | 18 => ⟨S4x2048, .f32⟩
  | 19 => ⟨S_, .i32⟩
  | 20 => ⟨S_, .i32⟩
  | 21 => ⟨S1x4x2048, .f32⟩
  | 22 => ⟨S4x2048, .f32⟩
  | 23 => ⟨S_, .i32⟩
  | 24 => ⟨S_, .i32⟩
  | 25 => ⟨S1x4x16, .f32⟩
  | 26 => ⟨S4x16, .f32⟩
  | 27 => ⟨S_, .i32⟩
  | 28 => ⟨S_, .i32⟩
  | 29 => ⟨S1x4x16, .f32⟩
  | 30 => ⟨S4x16, .f32⟩
  | 31 => ⟨S4x2048x1, .f32⟩
  | 32 => ⟨S1x2048x16, .f32⟩
  | 33 => ⟨S4x2048x16, .f32⟩
  | 34 => ⟨S4x2048x16, .f32⟩
  | 35 => ⟨S4x2048x16, .f32⟩
  | 36 => ⟨S4x2048x16, .f32⟩
  | 37 => ⟨S4x2048x16, .f32⟩
  | 38 => ⟨S4x2048, .f32⟩
  | 39 => ⟨S4x2048x1, .f32⟩
  | 40 => ⟨S4x1x16, .f32⟩
  | 41 => ⟨S4x2048x16, .f32⟩
  | 42 => ⟨S4x2048x16, .f32⟩
  | 43 => ⟨S4x2048x16, .f32⟩
  | 44 => ⟨S4x2048x16, .f32⟩
  | 45 => ⟨S4x2048, .f32⟩
  | 46 => ⟨S1x4x2048, .f32⟩
  | 47 => ⟨S_, .i32⟩
  | 48 => ⟨S_, .i32⟩
  | 49 => ⟨S1024x4x2048, .f32⟩
  | 50 => ⟨S_, .i32⟩
  | 51 => ⟨S_, .i32⟩
  | 52 => ⟨S4x1024x2048, .f32⟩
  | 53 => ⟨S1x1x2048, .f32⟩
  | 54 => ⟨S4x1024x2048, .f32⟩
  | 55 => ⟨S4x1024x2048, .f32⟩
  | 56 => ⟨S4x1024x2048, .f32⟩
  | 57 => ⟨S4x1024x2048, .f32⟩
  | 58 => ⟨S4x1024x2048, .f32⟩
  | 59 => ⟨S_, .f32⟩
  | 60 => ⟨S4x1024x2048, .f32⟩
  | 61 => ⟨S4x1024x2048, .f32⟩
  | 62 => ⟨S_, .f32⟩
  | 63 => ⟨S4x1024x2048, .f32⟩
  | 64 => ⟨S4x1024x2048, .f32⟩
  | 65 => ⟨S4x1024x2048, .f32⟩
  | 66 => ⟨S4x1024x2048, .f32⟩
  | 67 => ⟨S4096x2048, .f32⟩
  | 68 => ⟨S4096x2048, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_call0_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_2 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_call1_v5 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_call2_cst : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_v6 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_3 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_4 : Ref sig .tc := ⟨.hbm, 130, rfl⟩
abbrev main_v90 : Ref sig .tc := ⟨.hbm, 131, rfl⟩
abbrev main_c_5 : Ref sig .tc := ⟨.hbm, 132, rfl⟩
abbrev main_v91_0 : Ref sig .tc := ⟨.hbm, 133, rfl⟩
abbrev main_v91_1 : Ref sig .tc := ⟨.hbm, 134, rfl⟩
abbrev main_v91_2 : Ref sig .tc := ⟨.hbm, 135, rfl⟩
abbrev main_v91_3 : Ref sig .tc := ⟨.hbm, 136, rfl⟩
abbrev main_v91_4 : Ref sig .tc := ⟨.hbm, 137, rfl⟩
abbrev main_v91_5 : Ref sig .tc := ⟨.hbm, 138, rfl⟩
abbrev main_v91_6 : Ref sig .tc := ⟨.hbm, 139, rfl⟩
abbrev main_v91_7 : Ref sig .tc := ⟨.hbm, 140, rfl⟩
abbrev main_while0c_c_13 : Ref sig .tc := ⟨.hbm, 141, rfl⟩
abbrev main_while0c_v101 : Ref sig .tc := ⟨.hbm, 142, rfl⟩
abbrev main_while0b_call3_c : Ref sig .tc := ⟨.hbm, 143, rfl⟩
abbrev main_while0b_call3_c_0 : Ref sig .tc := ⟨.hbm, 144, rfl⟩
abbrev main_while0b_call3_v0 : Ref sig .tc := ⟨.hbm, 145, rfl⟩
abbrev main_while0b_v101 : Ref sig .tc := ⟨.hbm, 146, rfl⟩
abbrev main_while0b_call4_c : Ref sig .tc := ⟨.hbm, 147, rfl⟩
abbrev main_while0b_call4_c_0 : Ref sig .tc := ⟨.hbm, 148, rfl⟩
abbrev main_while0b_call4_v0 : Ref sig .tc := ⟨.hbm, 149, rfl⟩
abbrev main_while0b_v102 : Ref sig .tc := ⟨.hbm, 150, rfl⟩
abbrev main_while0b_call5_c : Ref sig .tc := ⟨.hbm, 151, rfl⟩
abbrev main_while0b_call5_c_0 : Ref sig .tc := ⟨.hbm, 152, rfl⟩
abbrev main_while0b_call5_v0 : Ref sig .tc := ⟨.hbm, 153, rfl⟩
abbrev main_while0b_v103 : Ref sig .tc := ⟨.hbm, 154, rfl⟩
abbrev main_while0b_call6_c : Ref sig .tc := ⟨.hbm, 155, rfl⟩
abbrev main_while0b_call6_c_0 : Ref sig .tc := ⟨.hbm, 156, rfl⟩
abbrev main_while0b_call6_v0 : Ref sig .tc := ⟨.hbm, 157, rfl⟩
abbrev main_while0b_v104 : Ref sig .tc := ⟨.hbm, 158, rfl⟩
abbrev main_while0b_v105 : Ref sig .tc := ⟨.hbm, 159, rfl⟩
abbrev main_while0b_v106 : Ref sig .tc := ⟨.hbm, 160, rfl⟩
abbrev main_while0b_v107 : Ref sig .tc := ⟨.hbm, 161, rfl⟩
abbrev main_while0b_v108 : Ref sig .tc := ⟨.hbm, 162, rfl⟩
abbrev main_while0b_v109 : Ref sig .tc := ⟨.hbm, 163, rfl⟩
abbrev main_while0b_v110 : Ref sig .tc := ⟨.hbm, 164, rfl⟩
abbrev main_while0b_v111 : Ref sig .tc := ⟨.hbm, 165, rfl⟩
abbrev main_while0b_v112 : Ref sig .tc := ⟨.hbm, 166, rfl⟩
abbrev main_while0b_v113 : Ref sig .tc := ⟨.hbm, 167, rfl⟩
abbrev main_while0b_v114 : Ref sig .tc := ⟨.hbm, 168, rfl⟩
abbrev main_while0b_v115 : Ref sig .tc := ⟨.hbm, 169, rfl⟩
abbrev main_while0b_v116 : Ref sig .tc := ⟨.hbm, 170, rfl⟩
abbrev main_while0b_v117 : Ref sig .tc := ⟨.hbm, 171, rfl⟩
abbrev main_while0b_v118 : Ref sig .tc := ⟨.hbm, 172, rfl⟩
abbrev main_while0b_v119 : Ref sig .tc := ⟨.hbm, 173, rfl⟩
abbrev main_while0b_call7_v0 : Ref sig .tc := ⟨.hbm, 174, rfl⟩
abbrev main_while0b_call7_c : Ref sig .tc := ⟨.hbm, 175, rfl⟩
abbrev main_while0b_call7_c_0 : Ref sig .tc := ⟨.hbm, 176, rfl⟩
abbrev main_while0b_v120 : Ref sig .tc := ⟨.hbm, 177, rfl⟩
abbrev main_while0b_c_13 : Ref sig .tc := ⟨.hbm, 178, rfl⟩
abbrev main_while0b_v121 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_call8_v0 : Ref sig .tc := ⟨.hbm, 185, rfl⟩
abbrev main_call8_v1 : Ref sig .tc := ⟨.hbm, 186, rfl⟩
abbrev main_call8_cst : Ref sig .tc := ⟨.hbm, 187, rfl⟩
abbrev main_call8_v2 : Ref sig .tc := ⟨.hbm, 188, rfl⟩
abbrev main_call8_v3 : Ref sig .tc := ⟨.hbm, 189, rfl⟩
abbrev main_call8_cst_0 : Ref sig .tc := ⟨.hbm, 190, rfl⟩
abbrev main_call8_v4 : Ref sig .tc := ⟨.hbm, 191, rfl⟩
abbrev main_call8_v5 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩

abbrev nD : Nat := 1
abbrev τ : Topo := Topo.v7x

variable {F : FTy → Type} [FloatOps F]

abbrev main_while0_count : Scf.Loop 32 := ⟨0#32, 1024#32, 1#32⟩
-- ==== Proof.ValHead.lean ====
/- The head's matmul at the ideal instance: what the pipelined kernel leaves in its result array is the reference's one
   host product of the hidden states with the transposed head weights. -/
module

public import proofs.«01_k».proof.Proof.Gen.HeadIdeal.Value
public import proofs.«01_k».proof.Proof.Gen.RefHeadIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.HeadIdeal.RefValue

open Cert.HeadIdeal Cert.HeadIdeal.Gen

variable (m : (ℓ : Loc nD τ sig) → Buf (Elt Ideal) ℓ) (ρ : Dev nD → PrngReg)

/-- The reference's product of hidden states and transposed head weights. -/
abbrev REF (X : FVec Ideal S4096x1024 .bf16) (W : FVec Ideal S32000x1024 .f32) : FVec Ideal S4096x32000 .f32 :=
  Host.dotGeneral Cert.RefHeadIdeal.dot_S4096x1024_S1024x32000_S4096x32000_1_0_0_1_n_n none
    (extf .f32 X Cert.RefHeadIdeal.Gen.bitsLt_bf16_f32)
    (transpose S1024x32000 [1, 0] W Cert.RefHeadIdeal.Gen.transposes_S32000x1024_S1024x32000_1_0)

/-- Where each window stands at a grid point. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- One element of a point's block is the reference's product at the element's place. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, idx t]

/-- The result array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.HeadIdeal.RefValue

end
-- ==== Proof.ValFinal.lean ====
/- The final normalisation at the ideal instance: what the pipelined kernel leaves in its result array is the reference's
   root-mean-square normalisation of `x1 + y1 · out_proj[1]`, index by index. -/
module

public import proofs.«01_k».proof.Proof.Gen.FinalIdeal.Value
public import proofs.«01_k».proof.Proof.Gen.RefFinalIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FinalIdeal.RefValue

open Cert.FinalIdeal Cert.FinalIdeal.Gen

variable (m : (ℓ : Loc nD τ sig) → Buf (Elt Ideal) ℓ) (ρ : Dev nD → PrngReg)

open Cert.RefFinalIdeal in
/-- The reference's residual sum: the stream plus the layer's output projected back. -/
abbrev HRES (X : FVec Ideal S4096x1024 .f32) (Y : FVec Ideal S4096x2048 .bf16) (W : FVec Ideal S2x2048x1024 .f32) :
    FVec Ideal S4096x1024 .f32 :=
  addf X (Host.dotGeneral dot_S4096x2048_S2048x1024_S4096x1024_1_0_0_1_n_n none (extf .f32 Y Gen.bitsLt_bf16_f32)
    (shapeCast S2048x1024 (extractStridedSlice S1x2048x1024 ![1, 0, 0] W Gen.slices_S2x2048x1024_S1x2048x1024_1_0_0)
      Gen.shapeCasts_S1x2048x1024_S2048x1024))

open Cert.RefFinalIdeal in
/-- The reference's normalised stream. -/
abbrev REF (X : FVec Ideal S4096x1024 .f32) (Y : FVec Ideal S4096x2048 .bf16) (W : FVec Ideal S2x2048x1024 .f32)
    (g : FVec Ideal S1024 .f32) : FVec Ideal S4096x1024 .bf16 :=
  truncf .bf16 (mulf (mulf (HRES X Y W) (broadcastInDim S4096x1024 ![0, 1] Gen.bcast_S4096x1_S4096x1024_0_1
    (Host.rsqrt (addf (Host.divf (broadcastInDim S4096x1 ![0] Gen.bcast_S4096_S4096x1_0
      (Host.reduceAdd (mulf (HRES X Y W) (HRES X Y W)) (constant S_ .f32 0x00000000#32) Gen.reducesTo_S4096x1024_S4096_d1 Gen.h_S_))
      (broadcastInDim S4096x1 ![] Gen.bcast_S_S4096x1 (constant S_ .f32 0x44800000#32)))
      (broadcastInDim S4096x1 ![] Gen.bcast_S_S4096x1 (constant S_ .f32 0x3727C5AC#32))))))
    (broadcastInDim S4096x1024 ![0, 1] Gen.bcast_S1x1024_S4096x1024_0_1
      (broadcastInDim S1x1024 ![1] Gen.bcast_S1024_S1x1024_1 g))) Gen.bitsLt_bf16_f32

/-- Where each window stands at a grid point. -/
theorem idx : ∀ t : Fin cfg0.N, win0_0.index t = ![t.val, 0] ∧ win0_1.index t = ![t.val, 0]
    ∧ win0_2.index t = ![0, 0] ∧ win0_3.index t = ![0, 0] ∧ win0_4.index t = ![t.val, 0] :=
  (by decide +kernel : ∀ t : Fin grid0.N, _)

/-- One element of a point's block is the reference's element at its place. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2))
      (m ((c : Thread nD τ).loc main_arg3)) (((cfg0.win 4).blk t).view.emb y) := by
  pointwise [k0_pay1, REF]
  blk_point [iblk, idx t]

/-- The result array after the run. -/
theorem final (c : Dev nD) : (dats m 0 c).arrAt 4 cfg0.N
    = REF (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]; frame_out
  exact point m c t y

end Cert.FinalIdeal.RefValue

end
-- ==== Proof.Scan.lean ====
module

public import proofs.«01_k».proof.Proof.Gen.MidIdeal.Frame
public import proofs.«01_k».proof.Proof.Gen.MidIdeal.Skeleton
public import Idealize.ShloMosaic.Lib.Exec
public import Idealize.ShloMosaic.Lib.Tactic
public import Idealize.ShloMosaic.Lib.VecWindow
public import Idealize.ShloMosaic.Lib.Pipeline.ValueKit

@[expose] public section

set_option maxRecDepth 16384
set_option maxHeartbeats 1000000

noncomputable section

namespace Cert.MidIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MidIdeal Cert.MidIdeal.Gen

variable {F : FTy → Type} [FloatOps F]

/-! ## One step of the recurrence -/

/-- Row `t` (modulo 256) of a 256-row array, as a one-row array. -/
def row (D : Vec F S256x2048 .f32) (t : ℕ) : Vec F S1x2048 .f32 :=
  fun y => D (ix2 ⟨t % 256, Nat.mod_lt _ (by norm_num)⟩ (y 1))

/-- Row `t` (modulo 256) of the 96-column array. -/
def rowP (P : Vec F S256x96 .f32) (t : ℕ) : Vec F S1x96 .f32 :=
  fun y => P (ix2 ⟨t % 256, Nat.mod_lt _ (by norm_num)⟩ (y 1))

/-- The recurrence's state before row `t` of a block. -/
def ST (mb : IVec S16x96 1) (D U : Vec F S256x2048 .f32) (P : Vec F S256x96 .f32) (A S0 : Vec F S16x2048 .f32) : ℕ → Vec F S16x2048 .f32
  | 0 => S0
  | t + 1 => k0_pay4 mb (row D t) (row U t) (rowP P t) A (ST mb D U P A S0 t)

/-- The products row `t` leaves for the sum over the state's rows. -/
def QT (mb mc : IVec S16x96 1) (D U : Vec F S256x2048 .f32) (P : Vec F S256x96 .f32) (A S0 : Vec F S16x2048 .f32) (t : ℕ) : Vec F S1x16x2048 .bf16 :=
  k0_pay5 mb mc (row D t) (row U t) (rowP P t) A (ST mb D U P A S0 t)

/-- Eight rows' products, one under the other. -/
def stack (Q : ℕ → Vec F S1x16x2048 .bf16) : Vec F S1x128x2048 .bf16 :=
  fun y => Q ((y 1).val / 16) (ix3 0 ⟨(y 1).val % 16, Nat.mod_lt _ (by norm_num)⟩ (y 2))

/-- The eight rows of group `g` of the scan's result. -/
def YT (mb mc : IVec S16x96 1) (D U : Vec F S256x2048 .f32) (P : Vec F S256x96 .f32) (A S0 : Vec F S16x2048 .f32) (g : ℕ) : Vec F S8x2048 .f32 :=
  k0_pay35 k0_pay92 (stack fun u => QT mb mc D U P A S0 (8 * g + u))

/-- The scan's result. -/
def YW (mb mc : IVec S16x96 1) (D U : Vec F S256x2048 .f32) (P : Vec F S256x96 .f32) (A S0 : Vec F S16x2048 .f32) : Vec F S256x2048 .f32 :=
  fun y => YT mb mc D U P A S0 ((y 0).val / 8) (ix2 ⟨(y 0).val % 8, Nat.mod_lt _ (by norm_num)⟩ (y 1))

theorem ST_next {mb : IVec S16x96 1} {D U : Vec F S256x2048 .f32} {P : Vec F S256x96 .f32} {A S0 : Vec F S16x2048 .f32} {t : ℕ}
    {d u : Vec F S1x2048 .f32} {p : Vec F S1x96 .f32} {a s : Vec F S16x2048 .f32}
    (hd : d = row D t) (hu : u = row U t) (hp : p = rowP P t) (ha : a = A) (hs : s = ST mb D U P A S0 t) :
    k0_pay4 mb d u p a s = ST mb D U P A S0 (t + 1) := by
  rw [hd, hu, hp, ha, hs]; rfl

theorem QT_next {mb mc : IVec S16x96 1} {D U : Vec F S256x2048 .f32} {P : Vec F S256x96 .f32} {A S0 : Vec F S16x2048 .f32} {t : ℕ}
    {d u : Vec F S1x2048 .f32} {p : Vec F S1x96 .f32} {a s : Vec F S16x2048 .f32}
    (hd : d = row D t) (hu : u = row U t) (hp : p = rowP P t) (ha : a = A) (hs : s = ST mb D U P A S0 t) :
    k0_pay5 mb mc d u p a s = QT mb mc D U P A S0 t := by
  rw [hd, hu, hp, ha, hs]; rfl

/-! ## The loop's offsets -/

theorem off1_eq : ∀ (k : Fin k0_t1_loop.trips) (r : Fin 8), k0_off1 k (BitVec.ofNat 32 r.val) = ![16 * k.val + r.val, 0] := by decide +kernel
theorem off2_eq : ∀ (k : Fin k0_t1_loop.trips) (r : Fin 8), k0_off2 k (BitVec.ofNat 32 r.val) = ![16 * k.val + r.val, 0] := by decide +kernel
theorem off4_eq : ∀ (k : Fin k0_t1_loop.trips) (r : Fin 8), k0_off4 k (BitVec.ofNat 32 r.val) = ![16 * k.val + (8 + r.val), 0] := by decide +kernel
theorem off5_eq : ∀ (k : Fin k0_t1_loop.trips) (r : Fin 8), k0_off5 k (BitVec.ofNat 32 r.val) = ![16 * k.val + (8 + r.val), 0] := by decide +kernel
theorem off3_eq : ∀ (k : Fin k0_t1_loop.trips), k0_off3 k = ![16 * k.val, 0] := by decide +kernel
theorem off6_eq : ∀ (k : Fin k0_t1_loop.trips), k0_off6 k = ![16 * k.val + 8, 0] := by decide +kernel

/-- A load of one row is that row. -/
theorem rowLd {sp : Space} (v : View sig .tc sp S256x2048 .f32) (X : v.ty.Contents (Elt F)) {off : Fin 2 → ℕ} {o : ℕ}
    (inb : ∀ a, off a + S1x2048.size a ≤ S256x2048.size a) (h : off = ![o, 0]) :
    v.readAt (Elt F) (Rect.unit (s := S256x2048) off S1x2048.size inb).toLoadRect X = row (v.read (Elt F) X) o := by
  subst h
  funext y
  show v.read (Elt F) X _ = v.read (Elt F) X _
  congr 1
  have h0 : o + 1 ≤ 256 := inb 0
  have hy : (y 0).val < 1 := (y 0).isLt
  funext a
  match a with
  | ⟨0, _⟩ => exact Fin.ext (by show o + 1 * (y 0).val = o % 256; omega)
  | ⟨1, _⟩ => exact Fin.ext (by show 0 + 1 * (y 1).val = (y 1).val; omega)

theorem rowLdP {sp : Space} (v : View sig .tc sp S256x96 .f32) (X : v.ty.Contents (Elt F)) {off : Fin 2 → ℕ} {o : ℕ}
    (inb : ∀ a, off a + S1x96.size a ≤ S256x96.size a) (h : off = ![o, 0]) :
    v.readAt (Elt F) (Rect.unit (s := S256x96) off S1x96.size inb).toLoadRect X = rowP (v.read (Elt F) X) o := by
  subst h
  funext y
  show v.read (Elt F) X _ = v.read (Elt F) X _
  congr 1
  have h0 : o + 1 ≤ 256 := inb 0
  have hy : (y 0).val < 1 := (y 0).isLt
  funext a
  match a with
  | ⟨0, _⟩ => exact Fin.ext (by show o + 1 * (y 0).val = o % 256; omega)
  | ⟨1, _⟩ => exact Fin.ext (by show 0 + 1 * (y 1).val = (y 1).val; omega)

/-- Eight stores of sixteen rows each, read back as one block: the stack of the stored values. -/
theorem stack_ld {sp : Space} (v : View sig .tc sp S2x128x2048 .bf16) (f : v.ty.Contents (Elt F)) (p : ℕ) (hp : p < 2) (Q : ℕ → Vec F S1x16x2048 .bf16)
    {w0 w1 w2 w3 w4 w5 w6 w7 : Vec F S1x16x2048 .bf16} (L : List (View.Piece (Elt F) S2x128x2048 .bf16))
    (h0 : w0 = Q 0) (h1 : w1 = Q 1) (h2 : w2 = Q 2) (h3 : w3 = Q 3) (h4 : w4 = Q 4) (h5 : w5 = Q 5) (h6 : w6 = Q 6) (h7 : w7 = Q 7)
    (i0 : ∀ a, (![p, 0, 0] : Fin 3 → ℕ) a + S1x16x2048.size a ≤ S2x128x2048.size a)
    (i1 : ∀ a, (![p, 16, 0] : Fin 3 → ℕ) a + S1x16x2048.size a ≤ S2x128x2048.size a)
    (i2 : ∀ a, (![p, 32, 0] : Fin 3 → ℕ) a + S1x16x2048.size a ≤ S2x128x2048.size a)
    (i3 : ∀ a, (![p, 48, 0] : Fin 3 → ℕ) a + S1x16x2048.size a ≤ S2x128x2048.size a)
    (i4 : ∀ a, (![p, 64, 0] : Fin 3 → ℕ) a + S1x16x2048.size a ≤ S2x128x2048.size a)
    (i5 : ∀ a, (![p, 80, 0] : Fin 3 → ℕ) a + S1x16x2048.size a ≤ S2x128x2048.size a)
    (i6 : ∀ a, (![p, 96, 0] : Fin 3 → ℕ) a + S1x16x2048.size a ≤ S2x128x2048.size a)
    (i7 : ∀ a, (![p, 112, 0] : Fin 3 → ℕ) a + S1x16x2048.size a ≤ S2x128x2048.size a)
    (ib : ∀ a, (![p, 0, 0] : Fin 3 → ℕ) a + S1x128x2048.size a ≤ S2x128x2048.size a) :
    v.readAt (Elt F) (Rect.unit (s := S2x128x2048) ![p, 0, 0] S1x128x2048.size ib).toLoadRect (v.writes (Elt F) f (⟨Rect.unit (s := S2x128x2048) ![p, 112, 0] S1x16x2048.size i7, w7⟩ :: ⟨Rect.unit (s := S2x128x2048) ![p, 96, 0] S1x16x2048.size i6, w6⟩ :: ⟨Rect.unit (s := S2x128x2048) ![p, 80, 0] S1x16x2048.size i5, w5⟩ :: ⟨Rect.unit (s := S2x128x2048) ![p, 64, 0] S1x16x2048.size i4, w4⟩ :: ⟨Rect.unit (s := S2x128x2048) ![p, 48, 0] S1x16x2048.size i3, w3⟩ :: ⟨Rect.unit (s := S2x128x2048) ![p, 32, 0] S1x16x2048.size i2, w2⟩ :: ⟨Rect.unit (s := S2x128x2048) ![p, 16, 0] S1x16x2048.size i1, w1⟩ :: ⟨Rect.unit (s := S2x128x2048) ![p, 0, 0] S1x16x2048.size i0, w0⟩ :: L)) = stack Q := by
  subst h0 h1 h2 h3 h4 h5 h6 h7
  funext y
  have hy0 : (y 0).val < 1 := (y 0).isLt
  have hy1 : (y 1).val < 128 := (y 1).isLt
  have e0 : ((Rect.unit (s := S2x128x2048) ![p, 0, 0] S1x128x2048.size ib).emb y 0).val = p := by
    show p + 1 * (y 0).val = p; omega
  have e1 : ((Rect.unit (s := S2x128x2048) ![p, 0, 0] S1x128x2048.size ib).emb y 1).val = (y 1).val := by
    show 0 + 1 * (y 1).val = _; omega
  have e2 : ((Rect.unit (s := S2x128x2048) ![p, 0, 0] S1x128x2048.size ib).emb y 2).val = (y 2).val := by
    show 0 + 1 * (y 2).val = _; omega
  show v.read (Elt F) (v.writes (Elt F) f _) ((Rect.unit (s := S2x128x2048) ![p, 0, 0] S1x128x2048.size ib).emb y) = _
  have hc : (y 1).val / 16 = 0 ∨ (y 1).val / 16 = 1 ∨ (y 1).val / 16 = 2 ∨ (y 1).val / 16 = 3 ∨ (y 1).val / 16 = 4 ∨ (y 1).val / 16 = 5 ∨ (y 1).val / 16 = 6 ∨ (y 1).val / 16 = 7 := by omega
  rcases hc with hc | hc | hc | hc | hc | hc | hc | hc
  · rw [View.read_writes_cons_unit_of_not_mem v f i7 _ _ _ rfl 1 (Or.inl (by rw [e1]; show (y 1).val < 112; omega))]
    rw [View.read_writes_cons_unit_of_not_mem v f i6 _ _ _ rfl 1 (Or.inl (by rw [e1]; show (y 1).val < 96; omega))]
    rw [View.read_writes_cons_unit_of_not_mem v f i5 _ _ _ rfl 1 (Or.inl (by rw [e1]; show (y 1).val < 80; omega))]
    rw [View.read_writes_cons_unit_of_not_mem v f i4 _ _ _ rfl 1 (Or.inl (by rw [e1]; show (y 1).val < 64; omega))]
    rw [View.read_writes_cons_unit_of_not_mem v f i3 _ _ _ rfl 1 (Or.inl (by rw [e1]; show (y 1).val < 48; omega))]
    rw [View.read_writes_cons_unit_of_not_mem v f i2 _ _ _ rfl 1 (Or.inl (by rw [e1]; show (y 1).val < 32; omega))]
    rw [View.read_writes_cons_unit_of_not_mem v f i1 _ _ _ rfl 1 (Or.inl (by rw [e1]; show (y 1).val < 16; omega))]
    rw [View.read_writes_cons_unit_of_mem v f i0 _ _ _ (ix3 0 ⟨(y 1).val % 16, Nat.mod_lt _ (by norm_num)⟩ (y 2)) rfl ?_]
    · unfold stack; rw [hc]
    · intro a
      match a with
      | ⟨0, _⟩ => exact e0
      | ⟨1, _⟩ => exact e1.trans (by show (y 1).val = 0 + (y 1).val % 16; omega)
      | ⟨2, _⟩ => exact e2.trans (Nat.zero_add _).symm
  · rw [View.read_writes_cons_unit_of_not_mem v f i7 _ _ _ rfl 1 (Or.inl (by rw [e1]; show (y 1).val < 112; omega))]
    rw [View.read_writes_cons_unit_of_not_mem v f i6 _ _ _ rfl 1 (Or.inl (by rw [e1]; show (y 1).val < 96; omega))]
    rw [View.read_writes_cons_unit_of_not_mem v f i5 _ _ _ rfl 1 (Or.inl (by rw [e1]; show (y 1).val < 80; omega))]
    rw [View.read_writes_cons_unit_of_not_mem v f i4 _ _ _ rfl 1 (Or.inl (by rw [e1]; show (y 1).val < 64; omega))]
    rw [View.read_writes_cons_unit_of_not_mem v f i3 _ _ _ rfl 1 (Or.inl (by rw [e1]; show (y 1).val < 48; omega))]
    rw [View.read_writes_cons_unit_of_not_mem v f i2 _ _ _ rfl 1 (Or.inl (by rw [e1]; show (y 1).val < 32; omega))]
    rw [View.read_writes_cons_unit_of_mem v f i1 _ _ _ (ix3 0 ⟨(y 1).val % 16, Nat.mod_lt _ (by norm_num)⟩ (y 2)) rfl ?_]
    · unfold stack; rw [hc]
    · intro a
      match a with
      | ⟨0, _⟩ => exact e0
      | ⟨1, _⟩ => exact e1.trans (by show (y 1).val = 16 + (y 1).val % 16; omega)
      | ⟨2, _⟩ => exact e2.trans (Nat.zero_add _).symm
  · rw [View.read_writes_cons_unit_of_not_mem v f i7 _ _ _ rfl 1 (Or.inl (by rw [e1]; show (y 1).val < 112; omega))]
    rw [View.read_writes_cons_unit_of_not_mem v f i6 _ _ _ rfl 1 (Or.inl (by rw [e1]; show (y 1).val < 96; omega))]
    rw [View.read_writes_cons_unit_of_not_mem v f i5 _ _ _ rfl 1 (Or.inl (by rw [e1]; show (y 1).val < 80; omega))]
    rw [View.read_writes_cons_unit_of_not_mem v f i4 _ _ _ rfl 1 (Or.inl (by rw [e1]; show (y 1).val < 64; omega))]
    rw [View.read_writes_cons_unit_of_not_mem v f i3 _ _ _ rfl 1 (Or.inl (by rw [e1]; show (y 1).val < 48; omega))]
    rw [View.read_writes_cons_unit_of_mem v f i2 _ _ _ (ix3 0 ⟨(y 1).val % 16, Nat.mod_lt _ (by norm_num)⟩ (y 2)) rfl ?_]
    · unfold stack; rw [hc]
    · intro a
      match a with
      | ⟨0, _⟩ => exact e0
      | ⟨1, _⟩ => exact e1.trans (by show (y 1).val = 32 + (y 1).val % 16; omega)
      | ⟨2, _⟩ => exact e2.trans (Nat.zero_add _).symm
  · rw [View.read_writes_cons_unit_of_not_mem v f i7 _ _ _ rfl 1 (Or.inl (by rw [e1]; show (y 1).val < 112; omega))]
    rw [View.read_writes_cons_unit_of_not_mem v f i6 _ _ _ rfl 1 (Or.inl (by rw [e1]; show (y 1).val < 96; omega))]
    rw [View.read_writes_cons_unit_of_not_mem v f i5 _ _ _ rfl 1 (Or.inl (by rw [e1]; show (y 1).val < 80; omega))]
    rw [View.read_writes_cons_unit_of_not_mem v f i4 _ _ _ rfl 1 (Or.inl (by rw [e1]; show (y 1).val < 64; omega))]
    rw [View.read_writes_cons_unit_of_mem v f i3 _ _ _ (ix3 0 ⟨(y 1).val % 16, Nat.mod_lt _ (by norm_num)⟩ (y 2)) rfl ?_]
    · unfold stack; rw [hc]
    · intro a
      match a with
      | ⟨0, _⟩ => exact e0
      | ⟨1, _⟩ => exact e1.trans (by show (y 1).val = 48 + (y 1).val % 16; omega)
      | ⟨2, _⟩ => exact e2.trans (Nat.zero_add _).symm
  · rw [View.read_writes_cons_unit_of_not_mem v f i7 _ _ _ rfl 1 (Or.inl (by rw [e1]; show (y 1).val < 112; omega))]
    rw [View.read_writes_cons_unit_of_not_mem v f i6 _ _ _ rfl 1 (Or.inl (by rw [e1]; show (y 1).val < 96; omega))]
    rw [View.read_writes_cons_unit_of_not_mem v f i5 _ _ _ rfl 1 (Or.inl (by rw [e1]; show (y 1).val < 80; omega))]
    rw [View.read_writes_cons_unit_of_mem v f i4 _ _ _ (ix3 0 ⟨(y 1).val % 16, Nat.mod_lt _ (by norm_num)⟩ (y 2)) rfl ?_]
    · unfold stack; rw [hc]
    · intro a
      match a with
      | ⟨0, _⟩ => exact e0
      | ⟨1, _⟩ => exact e1.trans (by show (y 1).val = 64 + (y 1).val % 16; omega)
      | ⟨2, _⟩ => exact e2.trans (Nat.zero_add _).symm
  · rw [View.read_writes_cons_unit_of_not_mem v f i7 _ _ _ rfl 1 (Or.inl (by rw [e1]; show (y 1).val < 112; omega))]
    rw [View.read_writes_cons_unit_of_not_mem v f i6 _ _ _ rfl 1 (Or.inl (by rw [e1]; show (y 1).val < 96; omega))]
    rw [View.read_writes_cons_unit_of_mem v f i5 _ _ _ (ix3 0 ⟨(y 1).val % 16, Nat.mod_lt _ (by norm_num)⟩ (y 2)) rfl ?_]
    · unfold stack; rw [hc]
    · intro a
      match a with
      | ⟨0, _⟩ => exact e0
      | ⟨1, _⟩ => exact e1.trans (by show (y 1).val = 80 + (y 1).val % 16; omega)
      | ⟨2, _⟩ => exact e2.trans (Nat.zero_add _).symm
  · rw [View.read_writes_cons_unit_of_not_mem v f i7 _ _ _ rfl 1 (Or.inl (by rw [e1]; show (y 1).val < 112; omega))]
    rw [View.read_writes_cons_unit_of_mem v f i6 _ _ _ (ix3 0 ⟨(y 1).val % 16, Nat.mod_lt _ (by norm_num)⟩ (y 2)) rfl ?_]
    · unfold stack; rw [hc]
    · intro a
      match a with
      | ⟨0, _⟩ => exact e0
      | ⟨1, _⟩ => exact e1.trans (by show (y 1).val = 96 + (y 1).val % 16; omega)
      | ⟨2, _⟩ => exact e2.trans (Nat.zero_add _).symm
  · rw [View.read_writes_cons_unit_of_mem v f i7 _ _ _ (ix3 0 ⟨(y 1).val % 16, Nat.mod_lt _ (by norm_num)⟩ (y 2)) rfl ?_]
    · unfold stack; rw [hc]
    · intro a
      match a with
      | ⟨0, _⟩ => exact e0
      | ⟨1, _⟩ => exact e1.trans (by show (y 1).val = 112 + (y 1).val % 16; omega)
      | ⟨2, _⟩ => exact e2.trans (Nat.zero_add _).symm

/-- The result's buffer before trip `k`: the rows of the trips done, the others as found. -/
def mixY (Y G : Vec F S256x2048 .f32) (k : ℕ) : Vec F S256x2048 .f32 :=
  fun y => if (y 0).val < 16 * k then Y y else G y

/-- Two stores of eight rows each carry the buffer from trip `k` to trip `k + 1`. -/
theorem mixY_next {sp : Space} (v : View sig .tc sp S256x2048 .f32) (f : v.ty.Contents (Elt F)) (Y G : Vec F S256x2048 .f32) (k : ℕ)
    (g0 g1 : Vec F S8x2048 .f32) {o1 o0 : Fin 2 → ℕ}
    (i1 : ∀ a, o1 a + S8x2048.size a ≤ S256x2048.size a) (i0 : ∀ a, o0 a + S8x2048.size a ≤ S256x2048.size a)
    (h1 : o1 = ![16 * k + 8, 0]) (h0 : o0 = ![16 * k, 0])
    (hg0 : ∀ y : S256x2048.Idx, (y 0).val / 8 = 2 * k → Y y = g0 (ix2 ⟨(y 0).val % 8, Nat.mod_lt _ (by norm_num)⟩ (y 1)))
    (hg1 : ∀ y : S256x2048.Idx, (y 0).val / 8 = 2 * k + 1 → Y y = g1 (ix2 ⟨(y 0).val % 8, Nat.mod_lt _ (by norm_num)⟩ (y 1)))
    (hf : v.read (Elt F) f = mixY Y G k) :
    v.read (Elt F) (v.writes (Elt F) f [⟨Rect.unit (s := S256x2048) o1 S8x2048.size i1, g1⟩, ⟨Rect.unit (s := S256x2048) o0 S8x2048.size i0, g0⟩])
      = mixY Y G (k + 1) := by
  subst h1 h0
  funext y
  unfold mixY
  by_cases c1 : (y 0).val / 8 = 2 * k + 1
  · rw [View.read_writes_cons_unit_of_mem v f i1 _ _ y (ix2 ⟨(y 0).val % 8, Nat.mod_lt _ (by norm_num)⟩ (y 1)) rfl ?_, if_pos (by omega), hg1 y c1]
    intro a
    match a with
    | ⟨0, _⟩ => show (y 0).val = 16 * k + 8 + (y 0).val % 8; omega
    | ⟨1, _⟩ => exact (Nat.zero_add _).symm
  by_cases c0 : (y 0).val / 8 = 2 * k
  · rw [View.read_writes_cons_unit_of_not_mem v f i1 _ _ y rfl 0 (Or.inl (by show (y 0).val < 16 * k + 8; omega)),
      View.read_writes_cons_unit_of_mem v f i0 _ _ y (ix2 ⟨(y 0).val % 8, Nat.mod_lt _ (by norm_num)⟩ (y 1)) rfl ?_, if_pos (by omega), hg0 y c0]
    intro a
    match a with
    | ⟨0, _⟩ => show (y 0).val = 16 * k + (y 0).val % 8; omega
    | ⟨1, _⟩ => exact (Nat.zero_add _).symm
  by_cases c : (y 0).val < 16 * k
  · rw [View.read_writes_cons_unit_of_not_mem v f i1 _ _ y rfl 0 (Or.inl (by show (y 0).val < 16 * k + 8; omega)),
      View.read_writes_cons_unit_of_not_mem v f i0 _ _ y rfl 0 (Or.inl (by show (y 0).val < 16 * k; omega)),
      View.writes_nil, hf, if_pos (by omega)]
    exact if_pos c
  · rw [View.read_writes_cons_unit_of_not_mem v f i1 _ _ y rfl 0 (Or.inr (by show 16 * k + 8 + 8 ≤ (y 0).val; omega)),
      View.read_writes_cons_unit_of_not_mem v f i0 _ _ y rfl 0 (Or.inr (by show 16 * k + 8 ≤ (y 0).val; omega)),
      View.writes_nil, hf, if_neg (by omega)]
    exact if_neg c

/-- A buffer's contents before trip `k`: as found before the first, afterwards by what it reads. -/
def loopC {sp : Space} {s : Shape} {e : EltTy} (v : View sig .tc sp s e) (G : v.ty.Contents (Elt F)) (X : ℕ → (s.Idx → Elt F e)) : ℕ → v.ty.Contents (Elt F)
  | 0 => G
  | k + 1 => v.rep (X (k + 1))

theorem read_loopC {sp : Space} {s : Shape} {e : EltTy} (v : View sig .tc sp s e) (G : v.ty.Contents (Elt F)) (X : ℕ → (s.Idx → Elt F e))
    (h : v.read (Elt F) G = X 0) (k : ℕ) : v.read (Elt F) (loopC v G X k) = X k := by
  cases k with
  | zero => exact h
  | succ k => exact View.read_rep v _

/-- One trip: sixteen rows of the recurrence and of its result. -/
theorem trip (𝒱 : Variants) (c : Dev nD) (bd : Option 𝒱.V) (E : Set ℕ) (i : grid0.Coords) (arg2 : Memref sig .tc .vmem S256x1024 .f32) (harg2 : arg2.IsWhole) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4x2048 .f32) (harg7 : arg7.IsWhole) (arg8 : Memref sig .tc .vmem S1x2048 .f32) (harg8 : arg8.IsWhole) (arg9 : Memref sig .tc .vmem S2048x96 .bf16) (harg9 : arg9.IsWhole) (arg10 : Memref sig .tc .vmem S64x2048 .bf16) (harg10 : arg10.IsWhole) (arg11 : Memref sig .tc .vmem S1x2048 .f32) (harg11 : arg11.IsWhole) (arg12 : Memref sig .tc .vmem S16x2048 .f32) (harg12 : arg12.IsWhole) (arg13 : Memref sig .tc .vmem S1x2048 .f32) (harg13 : arg13.IsWhole) (arg14 : Memref sig .tc .vmem S256x1024 .f32) (harg14 : arg14.IsWhole) (arg15 : Memref sig .tc .vmem S256x2048 .bf16) (harg15 : arg15.IsWhole) (arg16 : Memref sig .tc .vmem S264x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x96 .f32) (harg19 : arg19.IsWhole) (arg20 : Memref sig .tc .vmem S256x2048 .f32) (harg20 : arg20.IsWhole) (arg21 : Memref sig .tc .vmem S16x2048 .f32) (harg21 : arg21.IsWhole) (arg22 : Memref sig .tc .vmem S8x2048 .f32) (harg22 : arg22.IsWhole) (arg23 : Memref sig .tc .vmem S16x2048 .f32) (harg23 : arg23.IsWhole) (arg24 : Memref sig .tc .vmem S2x128x2048 .bf16) (harg24 : arg24.IsWhole) (arg25 : Memref sig .tc .vmem S256x2048 .f32) (harg25 : arg25.IsWhole) (arg26 : Memref sig .tc .vmem S256x2048 .f32) (harg26 : arg26.IsWhole)
    (v72 : FVec F S256x2048 .f32) (v98 : FVec F S256x2048 .f32) (v102 : IVec S16x96 32) (v103 : IVec S16x96 32)
    (X18 : BufTy.Contents (Elt F) arg18.view.ty) (X19 : BufTy.Contents (Elt F) arg19.view.ty) (X23 : BufTy.Contents (Elt F) arg23.view.ty) (X25 : BufTy.Contents (Elt F) arg25.view.ty)
    (f20 : BufTy.Contents (Elt F) arg20.view.ty) (f21 : BufTy.Contents (Elt F) arg21.view.ty) (f24 : BufTy.Contents (Elt F) arg24.view.ty) (k : Fin k0_t1_loop.trips)
    (S0 : Vec F S16x2048 .f32) (hS : arg21.view.read (Elt F) f21 = ST (k0_pay90 v102 v103) (arg18.view.read (Elt F) X18) (arg25.view.read (Elt F) X25) (arg19.view.read (Elt F) X19) (arg23.view.read (Elt F) X23) S0 (16 * k.val))
    (G0 : Vec F S256x2048 .f32) (hY : arg20.view.read (Elt F) f20 = mixY (YW (k0_pay90 v102 v103) (k0_pay91 v102 v103) (arg18.view.read (Elt F) X18) (arg25.view.read (Elt F) X25) (arg19.view.read (Elt F) X19) (arg23.view.read (Elt F) X23) S0) G0 k.val) :
    (iprop((arg18.view.loc (c : Thread nD τ) ↦[arg18.view.set]{fullShare} X18) ∗ (arg19.view.loc (c : Thread nD τ) ↦[arg19.view.set]{fullShare} X19) ∗ (arg23.view.loc (c : Thread nD τ) ↦[arg23.view.set]{fullShare} X23) ∗ (arg25.view.loc (c : Thread nD τ) ↦[arg25.view.set]{fullShare} X25) ∗ (arg20.view.loc (c : Thread nD τ) ↦[arg20.view.set]{fullShare} f20) ∗ (arg21.view.loc (c : Thread nD τ) ↦[arg21.view.set]{fullShare} f21) ∗ (arg24.view.loc (c : Thread nD τ) ↦[arg24.view.set]{fullShare} f24)) : sProp (MT nD τ sig Unit (Elt F) ℕ (UR sig nD τ) ℕ))
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v72 v98 v102 v103 k PUnit.unit)
          (fun _ => iprop((arg18.view.loc (c : Thread nD τ) ↦[arg18.view.set]{fullShare} X18) ∗ (arg19.view.loc (c : Thread nD τ) ↦[arg19.view.set]{fullShare} X19) ∗ (arg23.view.loc (c : Thread nD τ) ↦[arg23.view.set]{fullShare} X23) ∗ (arg25.view.loc (c : Thread nD τ) ↦[arg25.view.set]{fullShare} X25)
            ∗ (∃ g, (arg20.view.loc (c : Thread nD τ) ↦[arg20.view.set]{fullShare} g) ∗ ⌜arg20.view.read (Elt F) g = mixY (YW (k0_pay90 v102 v103) (k0_pay91 v102 v103) (arg18.view.read (Elt F) X18) (arg25.view.read (Elt F) X25) (arg19.view.read (Elt F) X19) (arg23.view.read (Elt F) X23) S0) G0 (k.val + 1)⌝)
            ∗ (∃ g, (arg21.view.loc (c : Thread nD τ) ↦[arg21.view.set]{fullShare} g) ∗ ⌜arg21.view.read (Elt F) g = ST (k0_pay90 v102 v103) (arg18.view.read (Elt F) X18) (arg25.view.read (Elt F) X25) (arg19.view.read (Elt F) X19) (arg23.view.read (Elt F) X23) S0 (16 * (k.val + 1))⌝)
            ∗ (∃ g, (arg24.view.loc (c : Thread nD τ) ↦[arg24.view.set]{fullShare} g)))) := by
  have hk : k.val < 16 := Nat.lt_of_lt_of_le k.isLt k0_t1_abs.2.1
  unfold k0_t1_body
  iintro ⟨H18, H19, H23, H25, H20, H21, H24⟩
  sl_exec
  sl_step
  have ha : arg23.view.readAt (Elt F) (Rect.unit (s := S16x2048) ![0, 0] S16x2048.size inb_S16x2048_S16x2048_0_0).toLoadRect X23 = arg23.view.read (Elt F) X23 :=
    View.readAt_full _ _ _
  have e0 : arg21.view.readAt (Elt F) (Rect.unit (s := S16x2048) ![0, 0] S16x2048.size inb_S16x2048_S16x2048_0_0).toLoadRect f21 = ST (k0_pay90 v102 v103) (arg18.view.read (Elt F) X18) (arg25.view.read (Elt F) X25) (arg19.view.read (Elt F) X19) (arg23.view.read (Elt F) X23) S0 (16 * k.val + 0) :=
    (View.readAt_full _ _ _).trans hS
  have e1 : trip.sl.v219 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 1) := by
    unfold trip.sl.v219 trip.sl.H21_1
    exact (View.readCov_full _ _ _ _ _).trans (ST_next (rowLd arg18.view X18 _ (off1_eq k 0)) (rowLd arg25.view X25 _ (off1_eq k 0)) (rowLdP arg19.view X19 _ (off2_eq k 0)) ha e0)
  have e2 : trip.sl.v256 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 2) := by
    unfold trip.sl.v256 trip.sl.H21_2
    exact (View.readCov_full _ _ _ _ _).trans (ST_next (rowLd arg18.view X18 _ (off1_eq k 1)) (rowLd arg25.view X25 _ (off1_eq k 1)) (rowLdP arg19.view X19 _ (off2_eq k 1)) ha e1)
  have e3 : trip.sl.v293 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 3) := by
    unfold trip.sl.v293 trip.sl.H21_3
    exact (View.readCov_full _ _ _ _ _).trans (ST_next (rowLd arg18.view X18 _ (off1_eq k 2)) (rowLd arg25.view X25 _ (off1_eq k 2)) (rowLdP arg19.view X19 _ (off2_eq k 2)) ha e2)
  have e4 : trip.sl.v330 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 4) := by
    unfold trip.sl.v330 trip.sl.H21_4
    exact (View.readCov_full _ _ _ _ _).trans (ST_next (rowLd arg18.view X18 _ (off1_eq k 3)) (rowLd arg25.view X25 _ (off1_eq k 3)) (rowLdP arg19.view X19 _ (off2_eq k 3)) ha e3)
  have e5 : trip.sl.v367 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 5) := by
    unfold trip.sl.v367 trip.sl.H21_5
    exact (View.readCov_full _ _ _ _ _).trans (ST_next (rowLd arg18.view X18 _ (off1_eq k 4)) (rowLd arg25.view X25 _ (off1_eq k 4)) (rowLdP arg19.view X19 _ (off2_eq k 4)) ha e4)
  have e6 : trip.sl.v404 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 6) := by
    unfold trip.sl.v404 trip.sl.H21_6
    exact (View.readCov_full _ _ _ _ _).trans (ST_next (rowLd arg18.view X18 _ (off1_eq k 5)) (rowLd arg25.view X25 _ (off1_eq k 5)) (rowLdP arg19.view X19 _ (off2_eq k 5)) ha e5)
  have e7 : trip.sl.v441 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 7) := by
    unfold trip.sl.v441 trip.sl.H21_7
    exact (View.readCov_full _ _ _ _ _).trans (ST_next (rowLd arg18.view X18 _ (off1_eq k 6)) (rowLd arg25.view X25 _ (off1_eq k 6)) (rowLdP arg19.view X19 _ (off2_eq k 6)) ha e6)
  have e8 : trip.sl.v488 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 8) := by
    unfold trip.sl.v488 trip.sl.H21_8
    exact (View.readCov_full _ _ _ _ _).trans (ST_next (rowLd arg18.view X18 _ (off1_eq k 7)) (rowLd arg25.view X25 _ (off1_eq k 7)) (rowLdP arg19.view X19 _ (off2_eq k 7)) ha e7)
  have e9 : trip.sl.v525 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 9) := by
    unfold trip.sl.v525 trip.sl.H21_9
    exact (View.readCov_full _ _ _ _ _).trans (ST_next (rowLd arg18.view X18 _ (off4_eq k 0)) (rowLd arg25.view X25 _ (off4_eq k 0)) (rowLdP arg19.view X19 _ (off5_eq k 0)) ha e8)
  have e10 : trip.sl.v562 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 10) := by
    unfold trip.sl.v562 trip.sl.H21_10
    exact (View.readCov_full _ _ _ _ _).trans (ST_next (rowLd arg18.view X18 _ (off4_eq k 1)) (rowLd arg25.view X25 _ (off4_eq k 1)) (rowLdP arg19.view X19 _ (off5_eq k 1)) ha e9)
  have e11 : trip.sl.v599 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 11) := by
    unfold trip.sl.v599 trip.sl.H21_11
    exact (View.readCov_full _ _ _ _ _).trans (ST_next (rowLd arg18.view X18 _ (off4_eq k 2)) (rowLd arg25.view X25 _ (off4_eq k 2)) (rowLdP arg19.view X19 _ (off5_eq k 2)) ha e10)
  have e12 : trip.sl.v636 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 12) := by
    unfold trip.sl.v636 trip.sl.H21_12
    exact (View.readCov_full _ _ _ _ _).trans (ST_next (rowLd arg18.view X18 _ (off4_eq k 3)) (rowLd arg25.view X25 _ (off4_eq k 3)) (rowLdP arg19.view X19 _ (off5_eq k 3)) ha e11)
  have e13 : trip.sl.v673 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 13) := by
    unfold trip.sl.v673 trip.sl.H21_13
    exact (View.readCov_full _ _ _ _ _).trans (ST_next (rowLd arg18.view X18 _ (off4_eq k 4)) (rowLd arg25.view X25 _ (off4_eq k 4)) (rowLdP arg19.view X19 _ (off5_eq k 4)) ha e12)
  have e14 : trip.sl.v710 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 14) := by
    unfold trip.sl.v710 trip.sl.H21_14
    exact (View.readCov_full _ _ _ _ _).trans (ST_next (rowLd arg18.view X18 _ (off4_eq k 5)) (rowLd arg25.view X25 _ (off4_eq k 5)) (rowLdP arg19.view X19 _ (off5_eq k 5)) ha e13)
  have e15 : trip.sl.v747 arg18 arg19 arg21 arg23 arg25 v102 v103 X18 X19 X23 X25 f21 k = ST (k0_pay90 v102 v103) (arg18.view.read (Elt F) X18) (arg25.view.read (Elt F) X25) (arg19.view.read (Elt F) X19) (arg23.view.read (Elt F) X23) S0 (16 * k.val + 15) := by
    unfold trip.sl.v747 trip.sl.H21_15
    exact (View.readCov_full _ _ _ _ _).trans (ST_next (rowLd arg18.view X18 _ (off4_eq k 6)) (rowLd arg25.view X25 _ (off4_eq k 6)) (rowLdP arg19.view X19 _ (off5_eq k 6)) ha e14)
  have z0 : trip.sl.v456 arg18 arg19 arg21 arg23 arg24 arg25 v102 v103 X18 X19 X23 X25 f21 k = stack (fun u => QT (k0_pay90 v102 v103) (k0_pay91 v102 v103) (arg18.view.read (Elt F) X18) (arg25.view.read (Elt F) X25) (arg19.view.read (Elt F) X19) (arg23.view.read (Elt F) X23) S0 (16 * k.val + u)) := by
    unfold trip.sl.v456 trip.sl.H24_8
    refine stack_ld arg24.view arg24.view.junk 0 (by decide) (fun u => QT (k0_pay90 v102 v103) (k0_pay91 v102 v103) (arg18.view.read (Elt F) X18) (arg25.view.read (Elt F) X25) (arg19.view.read (Elt F) X19) (arg23.view.read (Elt F) X23) S0 (16 * k.val + u)) [] ?_ ?_ ?_ ?_ ?_ ?_ ?_ ?_ _ _ _ _ _ _ _ _ _
    · exact (QT_next (rowLd arg18.view X18 _ (off1_eq k 0)) (rowLd arg25.view X25 _ (off1_eq k 0)) (rowLdP arg19.view X19 _ (off2_eq k 0)) ha e0)
    · exact (QT_next (rowLd arg18.view X18 _ (off1_eq k 1)) (rowLd arg25.view X25 _ (off1_eq k 1)) (rowLdP arg19.view X19 _ (off2_eq k 1)) ha e1)
    · exact (QT_next (rowLd arg18.view X18 _ (off1_eq k 2)) (rowLd arg25.view X25 _ (off1_eq k 2)) (rowLdP arg19.view X19 _ (off2_eq k 2)) ha e2)
    · exact (QT_next (rowLd arg18.view X18 _ (off1_eq k 3)) (rowLd arg25.view X25 _ (off1_eq k 3)) (rowLdP arg19.view X19 _ (off2_eq k 3)) ha e3)
    · exact (QT_next (rowLd arg18.view X18 _ (off1_eq k 4)) (rowLd arg25.view X25 _ (off1_eq k 4)) (rowLdP arg19.view X19 _ (off2_eq k 4)) ha e4)
    · exact (QT_next (rowLd arg18.view X18 _ (off1_eq k 5)) (rowLd arg25.view X25 _ (off1_eq k 5)) (rowLdP arg19.view X19 _ (off2_eq k 5)) ha e5)
    · exact (QT_next (rowLd arg18.view X18 _ (off1_eq k 6)) (rowLd arg25.view X25 _ (off1_eq k 6)) (rowLdP arg19.view X19 _ (off2_eq k 6)) ha e6)
    · exact (QT_next (rowLd arg18.view X18 _ (off1_eq k 7)) (rowLd arg25.view X25 _ (off1_eq k 7)) (rowLdP arg19.view X19 _ (off2_eq k 7)) ha e7)
  have z1 : trip.sl.v763 arg18 arg19 arg21 arg23 arg24 arg25 v102 v103 X18 X19 X23 X25 f21 k = stack (fun u => QT (k0_pay90 v102 v103) (k0_pay91 v102 v103) (arg18.view.read (Elt F) X18) (arg25.view.read (Elt F) X25) (arg19.view.read (Elt F) X19) (arg23.view.read (Elt F) X23) S0 (16 * k.val + (8 + u))) := by
    unfold trip.sl.v763 trip.sl.H24_16
    refine stack_ld arg24.view arg24.view.junk 1 (by decide) (fun u => QT (k0_pay90 v102 v103) (k0_pay91 v102 v103) (arg18.view.read (Elt F) X18) (arg25.view.read (Elt F) X25) (arg19.view.read (Elt F) X19) (arg23.view.read (Elt F) X23) S0 (16 * k.val + (8 + u))) (trip.sl.H24_8 arg18 arg19 arg21 arg23 arg25 v102 v103 X18 X19 X23 X25 f21 k) ?_ ?_ ?_ ?_ ?_ ?_ ?_ ?_ _ _ _ _ _ _ _ _ _
    · exact (QT_next (rowLd arg18.view X18 _ (off4_eq k 0)) (rowLd arg25.view X25 _ (off4_eq k 0)) (rowLdP arg19.view X19 _ (off5_eq k 0)) ha e8)
    · exact (QT_next (rowLd arg18.view X18 _ (off4_eq k 1)) (rowLd arg25.view X25 _ (off4_eq k 1)) (rowLdP arg19.view X19 _ (off5_eq k 1)) ha e9)
    · exact (QT_next (rowLd arg18.view X18 _ (off4_eq k 2)) (rowLd arg25.view X25 _ (off4_eq k 2)) (rowLdP arg19.view X19 _ (off5_eq k 2)) ha e10)
    · exact (QT_next (rowLd arg18.view X18 _ (off4_eq k 3)) (rowLd arg25.view X25 _ (off4_eq k 3)) (rowLdP arg19.view X19 _ (off5_eq k 3)) ha e11)
    · exact (QT_next (rowLd arg18.view X18 _ (off4_eq k 4)) (rowLd arg25.view X25 _ (off4_eq k 4)) (rowLdP arg19.view X19 _ (off5_eq k 4)) ha e12)
    · exact (QT_next (rowLd arg18.view X18 _ (off4_eq k 5)) (rowLd arg25.view X25 _ (off4_eq k 5)) (rowLdP arg19.view X19 _ (off5_eq k 5)) ha e13)
    · exact (QT_next (rowLd arg18.view X18 _ (off4_eq k 6)) (rowLd arg25.view X25 _ (off4_eq k 6)) (rowLdP arg19.view X19 _ (off5_eq k 6)) ha e14)
    · exact (QT_next (rowLd arg18.view X18 _ (off4_eq k 7)) (rowLd arg25.view X25 _ (off4_eq k 7)) (rowLdP arg19.view X19 _ (off5_eq k 7)) ha e15)
  isplitl [H18]; · iexact H18
  isplitl [H19]; · iexact H19
  isplitl [H23]; · iexact H23
  isplitl [H25]; · iexact H25
  isplitl [H20]
  · iexists _; isplitl [H20]; · iexact H20
    ipureintro
    refine mixY_next arg20.view f20 _ G0 k.val _ _ _ _ (off6_eq k) (off3_eq k) ?_ ?_ hY
    · intro y hy
      rw [z0]
      unfold YW YT
      rw [hy]
      have hg : 8 * (2 * k.val) = 16 * k.val := by omega
      rw [hg]
    · intro y hy
      unfold trip.sl.r_28
      rw [z1]
      unfold YW YT
      rw [hy]
      have hg : ∀ u, 8 * (2 * k.val + 1) + u = 16 * k.val + (8 + u) := fun u => by omega
      simp only [hg]
      rfl
  isplitl [H21]
  · iexists _; isplitl [H21]; · iexact H21
    ipureintro
    refine (View.read_writes_full _ _ _ _ _).trans ?_
    exact ST_next (rowLd arg18.view X18 _ (off4_eq k 7)) (rowLd arg25.view X25 _ (off4_eq k 7)) (rowLdP arg19.view X19 _ (off5_eq k 7)) ha e15
  iexists _; iexact H24

/-- The scan's loop by its invariant. -/
abbrev inv (c : Dev nD) (arg18 : Memref sig .tc .vmem S256x2048 .f32) (arg19 : Memref sig .tc .vmem S256x96 .f32) (arg20 : Memref sig .tc .vmem S256x2048 .f32) (arg21 : Memref sig .tc .vmem S16x2048 .f32) (arg23 : Memref sig .tc .vmem S16x2048 .f32) (arg24 : Memref sig .tc .vmem S2x128x2048 .bf16) (arg25 : Memref sig .tc .vmem S256x2048 .f32) (v72 : FVec F S256x2048 .f32) (v98 : FVec F S256x2048 .f32) (v102 : IVec S16x96 32) (v103 : IVec S16x96 32) (X18 : BufTy.Contents (Elt F) arg18.view.ty) (X19 : BufTy.Contents (Elt F) arg19.view.ty) (X23 : BufTy.Contents (Elt F) arg23.view.ty) (X25 : BufTy.Contents (Elt F) arg25.view.ty) (G20 : BufTy.Contents (Elt F) arg20.view.ty) (G21 : BufTy.Contents (Elt F) arg21.view.ty) (k : ℕ) (_u : PUnit) : sProp (MT nD τ sig Unit (Elt F) ℕ (UR sig nD τ) ℕ) :=
  iprop((arg18.view.loc (c : Thread nD τ) ↦[arg18.view.set]{fullShare} X18) ∗ (arg19.view.loc (c : Thread nD τ) ↦[arg19.view.set]{fullShare} X19) ∗ (arg23.view.loc (c : Thread nD τ) ↦[arg23.view.set]{fullShare} X23) ∗ (arg25.view.loc (c : Thread nD τ) ↦[arg25.view.set]{fullShare} X25)
    ∗ (∃ f, (arg20.view.loc (c : Thread nD τ) ↦[arg20.view.set]{fullShare} f) ∗ ⌜f = loopC arg20.view G20 (fun k => mixY (YW (k0_pay90 v102 v103) (k0_pay91 v102 v103) (arg18.view.read (Elt F) X18) (arg25.view.read (Elt F) X25) (arg19.view.read (Elt F) X19) (arg23.view.read (Elt F) X23) (arg21.view.read (Elt F) G21)) (arg20.view.read (Elt F) G20) k) k⌝)
    ∗ (∃ f, (arg21.view.loc (c : Thread nD τ) ↦[arg21.view.set]{fullShare} f) ∗ ⌜f = loopC arg21.view G21 (fun k => ST (k0_pay90 v102 v103) (arg18.view.read (Elt F) X18) (arg25.view.read (Elt F) X25) (arg19.view.read (Elt F) X19) (arg23.view.read (Elt F) X23) (arg21.view.read (Elt F) G21) (16 * k)) k⌝)
    ∗ (∃ f, (arg24.view.loc (c : Thread nD τ) ↦[arg24.view.set]{fullShare} f)))

set_option warn.classDefReducibility false in
/-- The scan's loop, one trip after another. -/
@[sl_loop] def loopInv (𝒱 : Variants) (c : Dev nD) (bd : Option 𝒱.V) (E : Set ℕ) (i : grid0.Coords) (arg2 : Memref sig .tc .vmem S256x1024 .f32) (harg2 : arg2.IsWhole) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4x2048 .f32) (harg7 : arg7.IsWhole) (arg8 : Memref sig .tc .vmem S1x2048 .f32) (harg8 : arg8.IsWhole) (arg9 : Memref sig .tc .vmem S2048x96 .bf16) (harg9 : arg9.IsWhole) (arg10 : Memref sig .tc .vmem S64x2048 .bf16) (harg10 : arg10.IsWhole) (arg11 : Memref sig .tc .vmem S1x2048 .f32) (harg11 : arg11.IsWhole) (arg12 : Memref sig .tc .vmem S16x2048 .f32) (harg12 : arg12.IsWhole) (arg13 : Memref sig .tc .vmem S1x2048 .f32) (harg13 : arg13.IsWhole) (arg14 : Memref sig .tc .vmem S256x1024 .f32) (harg14 : arg14.IsWhole) (arg15 : Memref sig .tc .vmem S256x2048 .bf16) (harg15 : arg15.IsWhole) (arg16 : Memref sig .tc .vmem S264x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x96 .f32) (harg19 : arg19.IsWhole) (arg20 : Memref sig .tc .vmem S256x2048 .f32) (harg20 : arg20.IsWhole) (arg21 : Memref sig .tc .vmem S16x2048 .f32) (harg21 : arg21.IsWhole) (arg22 : Memref sig .tc .vmem S8x2048 .f32) (harg22 : arg22.IsWhole) (arg23 : Memref sig .tc .vmem S16x2048 .f32) (harg23 : arg23.IsWhole) (arg24 : Memref sig .tc .vmem S2x128x2048 .bf16) (harg24 : arg24.IsWhole) (arg25 : Memref sig .tc .vmem S256x2048 .f32) (harg25 : arg25.IsWhole) (arg26 : Memref sig .tc .vmem S256x2048 .f32) (harg26 : arg26.IsWhole)
    (v72 : FVec F S256x2048 .f32) (v98 : FVec F S256x2048 .f32) (v102 : IVec S16x96 32) (v103 : IVec S16x96 32) (X18 : BufTy.Contents (Elt F) arg18.view.ty) (X19 : BufTy.Contents (Elt F) arg19.view.ty) (X23 : BufTy.Contents (Elt F) arg23.view.ty) (X25 : BufTy.Contents (Elt F) arg25.view.ty) (G20 : BufTy.Contents (Elt F) arg20.view.ty) (G21 : BufTy.Contents (Elt F) arg21.view.ty) :
    Idealize.ShloMosaic.LoopInv (M := MT nD τ sig Unit (Elt F) ℕ (UR sig nD τ) ℕ) Idealize.ShloMosaic.frame (wpE defs₀ 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v72 v98 v102 v103) where
  inv := inv (F := F) c arg18 arg19 arg20 arg21 arg23 arg24 arg25 v72 v98 v102 v103 X18 X19 X23 X25 G20 G21
  step k acc := by
    iintro ⟨H18, H19, H23, H25, ⟨%f20, H20, %h20⟩, ⟨%f21, H21, %h21⟩, ⟨%f24, H24⟩⟩
    iapply (wp_wand_r Idealize.ShloMosaic.frame (wpE (defs₀ (F := F)) 𝒱 (c : Thread nD τ) bd) E)
    isplitl [H18 H19 H23 H25 H20 H21 H24]
    · iapply (trip (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v72 v98 v102 v103 X18 X19 X23 X25 f20 f21 f24 k (arg21.view.read (Elt F) G21)
        (by rw [h21]; exact read_loopC _ _ (fun k => ST (k0_pay90 v102 v103) (arg18.view.read (Elt F) X18) (arg25.view.read (Elt F) X25) (arg19.view.read (Elt F) X19) (arg23.view.read (Elt F) X23) (arg21.view.read (Elt F) G21) (16 * k)) rfl _) (arg20.view.read (Elt F) G20)
        (by rw [h20]; exact read_loopC _ _ (fun k => mixY (YW (k0_pay90 v102 v103) (k0_pay91 v102 v103) (arg18.view.read (Elt F) X18) (arg25.view.read (Elt F) X25) (arg19.view.read (Elt F) X19) (arg23.view.read (Elt F) X23) (arg21.view.read (Elt F) G21)) (arg20.view.read (Elt F) G20) k) (funext fun y => (if_neg (Nat.not_lt_zero _)).symm) _))
      isplitl [H18]; · iexact H18
      isplitl [H19]; · iexact H19
      isplitl [H23]; · iexact H23
      isplitl [H25]; · iexact H25
      isplitl [H20]; · iexact H20
      isplitl [H21]; · iexact H21
      iexact H24
    · iintro %_ ⟨H18, H19, H23, H25, ⟨%g20, H20, %e20⟩, ⟨%g21, H21, %e21⟩, ⟨%g24, H24⟩⟩
      isplitl [H18]; · iexact H18
      isplitl [H19]; · iexact H19
      isplitl [H23]; · iexact H23
      isplitl [H25]; · iexact H25
      isplitl [H20]
      · iexists _; isplitl [H20]
        · iapply (pointsTo_rep_of_read (c : Thread nD τ) arg20 g20 fullShare _ e20); iexact H20
        ipureintro; rfl
      isplitl [H21]
      · iexists _; isplitl [H21]
        · iapply (pointsTo_rep_of_read (c : Thread nD τ) arg21 g21 fullShare _ e21); iexact H21
        ipureintro; rfl
      iexists _; iexact H24

end Cert.MidIdeal.Scan
-- ==== Proof.Body.lean ====
module

public import proofs.«01_k».proof.Proof.Scan
public import proofs.«01_k».proof.Proof.Gen.MidIdeal.Skeleton
public import proofs.«01_k».proof.Proof.Gen.MidIdeal.Points
public import Idealize.ShloMosaic.Lib.Exec
public import Idealize.ShloMosaic.Lib.Tactic
public import Idealize.ShloMosaic.Lib.VecWindow
public import Idealize.ShloMosaic.Lib.Pipeline.ValueKit

@[expose] public section

set_option maxRecDepth 16384
set_option maxHeartbeats 1000000

noncomputable section

namespace Cert.MidIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MidIdeal Cert.MidIdeal.Gen
open Cert.MidIdeal.Scan
variable {F : FTy → Type} [FloatOps F]

/-! ## What one block computes -/

/-- Column picked for each state row out of the small projection: first half. -/
def mB : IVec S16x96 1 := k0_pay90 (iota .tc S16x96 32 [0] iota_S16x96_d0_w32) (iota .tc S16x96 32 [1] iota_S16x96_d1_w32)

/-- Column picked for each state row out of the small projection: second half. -/
def mC : IVec S16x96 1 := k0_pay91 (iota .tc S16x96 32 [0] iota_S16x96_d0_w32) (iota .tc S16x96 32 [1] iota_S16x96_d1_w32)

/-- Row `k` of the convolution's weights. -/
def cwR (cw : Vec F S4x2048 .f32) (k : Fin 4) : Vec F S1x2048 .f32 := fun y => cw (ix2 k (y 1))

/-- Eight carried rows above the block's own rows. -/
def xpad (C : Vec F S8x2048 .f32) (X : Vec F S256x2048 .f32) : Vec F S264x2048 .f32 :=
  fun y => if h : (y 0).val < 8 then C (ix2 ⟨(y 0).val, h⟩ (y 1)) else X (ix2 ⟨(y 0).val - 8, by have h0 : (y 0).val < 264 := (y 0).isLt; omega⟩ (y 1))

/-- The padded rows from row `o` on. -/
def xw (C : Vec F S8x2048 .f32) (X : Vec F S256x2048 .f32) (o : Fin 9) : Vec F S256x2048 .f32 :=
  fun y => xpad C X (ix2 ⟨o.val + (y 0).val, by have h0 : (y 0).val < 256 := (y 0).isLt; omega⟩ (y 1))

/-- The last eight rows of a block. -/
def tail8 (X : Vec F S256x2048 .f32) : Vec F S8x2048 .f32 :=
  fun y => X (ix2 ⟨248 + (y 0).val, by have h0 : (y 0).val < 8 := (y 0).isLt; omega⟩ (y 1))

def xiB (x2 : Vec F S256x1024 .f32) (x3 : Vec F S256x2048 .bf16) (x4 : Vec F S2048x1024 .bf16) (x5 : Vec F S1x1024 .f32) (x6 : Vec F S1024x4096 .bf16) : Vec F S256x2048 .f32 :=
  k0_pay79 x2 x3 x4 x5 x6

def zsB (x2 : Vec F S256x1024 .f32) (x3 : Vec F S256x2048 .bf16) (x4 : Vec F S2048x1024 .bf16) (x5 : Vec F S1x1024 .f32) (x6 : Vec F S1024x4096 .bf16) : Vec F S256x2048 .f32 :=
  k0_pay78 x2 x3 x4 x5 x6

/-- The carried rows a block leaves to the next. -/
def cvB (X : Vec F S256x2048 .f32) : Vec F S8x2048 .f32 := k0_pay82 (tail8 (k0_pay81 X))

/-- First three terms of the convolution and its bias. -/
def accB (C : Vec F S8x2048 .f32) (X : Vec F S256x2048 .f32) (cw : Vec F S4x2048 .f32) (cb : Vec F S1x2048 .f32) : Vec F S256x2048 .f32 :=
  k0_pay83 cb (cwR cw 0) (xw (k0_pay80 C) (k0_pay81 X) 5) (cwR cw 1) (xw (k0_pay80 C) (k0_pay81 X) 6) (cwR cw 2) (xw (k0_pay80 C) (k0_pay81 X) 7)

def x8B (C : Vec F S8x2048 .f32) (X : Vec F S256x2048 .f32) : Vec F S256x2048 .f32 := xw (k0_pay80 C) (k0_pay81 X) 8

def xcB (C : Vec F S8x2048 .f32) (X : Vec F S256x2048 .f32) (cw : Vec F S4x2048 .f32) (cb : Vec F S1x2048 .f32) : Vec F S256x2048 .f32 :=
  k0_pay85 (accB C X cw cb) (cwR cw 3) (x8B C X)

def dbB (C : Vec F S8x2048 .f32) (X : Vec F S256x2048 .f32) (cw : Vec F S4x2048 .f32) (cb : Vec F S1x2048 .f32) (xp : Vec F S2048x96 .bf16) : Vec F S256x96 .f32 :=
  k0_pay87 (accB C X cw cb) (cwR cw 3) (x8B C X) xp

def dlB (C : Vec F S8x2048 .f32) (X : Vec F S256x2048 .f32) (cw : Vec F S4x2048 .f32) (cb : Vec F S1x2048 .f32) (xp : Vec F S2048x96 .bf16) (tw : Vec F S64x2048 .bf16) (tb : Vec F S1x2048 .f32) : Vec F S256x2048 .f32 :=
  k0_pay89 (accB C X cw cb) (cwR cw 3) (x8B C X) xp tw tb

def uB (C : Vec F S8x2048 .f32) (X : Vec F S256x2048 .f32) (cw : Vec F S4x2048 .f32) (cb : Vec F S1x2048 .f32) (xp : Vec F S2048x96 .bf16) (tw : Vec F S64x2048 .bf16) (tb : Vec F S1x2048 .f32) : Vec F S256x2048 .f32 :=
  k0_pay93 (k0_pay84 (accB C X cw cb) (cwR cw 3) (x8B C X)) (k0_pay88 (accB C X cw cb) (cwR cw 3) (x8B C X) xp tw tb)

/-- The state a block leaves, from the state `S` and the carried rows `C` it finds. -/
def stB (C : Vec F S8x2048 .f32) (X : Vec F S256x2048 .f32) (cw : Vec F S4x2048 .f32) (cb : Vec F S1x2048 .f32) (xp : Vec F S2048x96 .bf16) (tw : Vec F S64x2048 .bf16) (tb : Vec F S1x2048 .f32) (S A : Vec F S16x2048 .f32) : Vec F S16x2048 .f32 :=
  ST mB (dlB C X cw cb xp tw tb) (uB C X cw cb xp tw tb) (dbB C X cw cb xp) A S 256

/-- The block's result. -/
def yB (C : Vec F S8x2048 .f32) (X Z : Vec F S256x2048 .f32) (cw : Vec F S4x2048 .f32) (cb : Vec F S1x2048 .f32) (xp : Vec F S2048x96 .bf16) (tw : Vec F S64x2048 .bf16) (tb dk : Vec F S1x2048 .f32) (S A : Vec F S16x2048 .f32) : Vec F S256x2048 .bf16 :=
  k0_pay1 Z (YW mB mC (dlB C X cw cb xp tw tb) (uB C X cw cb xp tw tb) (dbB C X cw cb xp) A S) dk (xcB C X cw cb)

/-! ## Loads of the padded rows -/

theorem canon_xp (C : Vec F S8x2048 .f32) (X : Vec F S256x2048 .f32) {o0 o8 : Fin 2 → ℕ}
    (i8 : ∀ a, o8 a + S256x2048.size a ≤ S264x2048.size a) (i0 : ∀ a, o0 a + S8x2048.size a ≤ S264x2048.size a)
    (h8 : o8 = ![8, 0]) (h0 : o0 = ![0, 0]) :
    View.canon [(⟨Rect.unit (s := S264x2048) o8 S256x2048.size i8, X⟩ : View.Piece (Elt F) S264x2048 .f32), ⟨Rect.unit (s := S264x2048) o0 S8x2048.size i0, C⟩] = xpad C X := by
  subst h8 h0
  funext y
  have hy0 : (y 0).val < 264 := (y 0).isLt
  have hy1 : (y 1).val < 2048 := (y 1).isLt
  unfold xpad
  by_cases h : (y 0).val < 8
  · rw [dif_pos h, View.canon_cons_of_not_mem]
    · have e : y = (Rect.unit (s := S264x2048) ![0, 0] S8x2048.size i0).emb (ix2 ⟨(y 0).val, h⟩ (y 1)) :=
        funext fun a => Fin.ext (by
          fin_cases a
          · show (y 0).val = 0 + 1 * (y 0).val; omega
          · show (y 1).val = 0 + 1 * (y 1).val; omega)
      rw [congrArg (View.canon _) e, View.canon_cons_emb]
    · intro hm
      rw [Rect.mem_set_unit] at hm
      have := (hm 0).1
      simp at this; omega
  · rw [dif_neg h]
    have e : y = (Rect.unit (s := S264x2048) ![8, 0] S256x2048.size i8).emb (ix2 ⟨(y 0).val - 8, by omega⟩ (y 1)) :=
      funext fun a => Fin.ext (by
        fin_cases a
        · show (y 0).val = 8 + 1 * ((y 0).val - 8); omega
        · show (y 1).val = 0 + 1 * (y 1).val; omega)
    rw [congrArg (View.canon _) e, View.canon_cons_emb]

theorem ld_xw {sp : Space} (v : View sig .tc sp S264x2048 .f32) (C : Vec F S8x2048 .f32) (X : Vec F S256x2048 .f32) {o0 o8 oo : Fin 2 → ℕ}
    (i8 : ∀ a, o8 a + S256x2048.size a ≤ S264x2048.size a) (i0 : ∀ a, o0 a + S8x2048.size a ≤ S264x2048.size a)
    (io : ∀ a, oo a + S256x2048.size a ≤ S264x2048.size a)
    (h8 : o8 = ![8, 0]) (h0 : o0 = ![0, 0]) (o : Fin 9) (n : ℕ) (hn : o.val = n) (ho : oo = ![n, 0]) :
    v.readCov [(⟨Rect.unit (s := S264x2048) o8 S256x2048.size i8, X⟩ : View.Piece (Elt F) S264x2048 .f32), ⟨Rect.unit (s := S264x2048) o0 S8x2048.size i0, C⟩]
      (Rect.unit (s := S264x2048) oo S256x2048.size io).toLoadRect = xw C X o := by
  rw [View.readCov_eq_canon', canon_xp C X i8 i0 h8 h0]
  subst hn ho
  funext y
  exact congrArg (xpad C X) (funext fun a => Fin.ext (by
    fin_cases a
    · show o.val + 1 * (y 0).val = o.val + (y 0).val; omega
    · show 0 + 1 * (y 1).val = (y 1).val; omega))

theorem ld_tail {sp : Space} (v : View sig .tc sp S264x2048 .f32) (C : Vec F S8x2048 .f32) (X : Vec F S256x2048 .f32) {o0 o8 oo : Fin 2 → ℕ}
    (i8 : ∀ a, o8 a + S256x2048.size a ≤ S264x2048.size a) (i0 : ∀ a, o0 a + S8x2048.size a ≤ S264x2048.size a)
    (io : ∀ a, oo a + S8x2048.size a ≤ S264x2048.size a)
    (h8 : o8 = ![8, 0]) (h0 : o0 = ![0, 0]) (ho : oo = ![256, 0]) :
    v.readCov [(⟨Rect.unit (s := S264x2048) o8 S256x2048.size i8, X⟩ : View.Piece (Elt F) S264x2048 .f32), ⟨Rect.unit (s := S264x2048) o0 S8x2048.size i0, C⟩]
      (Rect.unit (s := S264x2048) oo S8x2048.size io).toLoadRect = tail8 X := by
  rw [View.readCov_eq_canon', canon_xp C X i8 i0 h8 h0]
  subst ho
  funext y
  have hy0 : (y 0).val < 8 := (y 0).isLt
  refine (congrArg (xpad C X) (show _ = (ix2 ⟨256 + (y 0).val, by omega⟩ (y 1) : S264x2048.Idx) from funext fun a => Fin.ext (by
    fin_cases a
    · show 256 + 1 * (y 0).val = 256 + (y 0).val; omega
    · show 0 + 1 * (y 1).val = (y 1).val; omega))).trans ?_
  unfold xpad tail8
  rw [dif_neg (by show ¬ 256 + (y 0).val < 8; omega)]
  exact congrArg X (funext fun a => Fin.ext (by
    fin_cases a
    · show 256 + (y 0).val - 8 = 248 + (y 0).val; omega
    · rfl))

theorem ld_cw {sp : Space} (v : View sig .tc sp S4x2048 .f32) (f : v.ty.Contents (Elt F)) {o : Fin 2 → ℕ}
    (i : ∀ a, o a + S1x2048.size a ≤ S4x2048.size a) (k : Fin 4) (n : ℕ) (hn : k.val = n) (h : o = ![n, 0]) :
    v.readAt (Elt F) (Rect.unit (s := S4x2048) o S1x2048.size i).toLoadRect f = cwR (v.read (Elt F) f) k := by
  subst hn h
  funext y
  have hy0 : (y 0).val < 1 := (y 0).isLt
  exact congrArg (v.read (Elt F) f) (funext fun a => Fin.ext (by
    fin_cases a
    · show k.val + 1 * (y 0).val = k.val; omega
    · show 0 + 1 * (y 1).val = (y 1).val; omega))

theorem rdF {sp : Space} {s : Shape} {e : EltTy} (v : View sig .tc sp s e) (f : v.ty.Contents (Elt F)) {off : Fin s.rank → ℕ} (inb : ∀ a, off a + s.size a ≤ s.size a) :
    v.readAt (Elt F) (Rect.unit off (no_index s.size) inb).toLoadRect f = v.read (Elt F) f := View.readAt_full v f inb

theorem rcF {sp : Space} {s : Shape} {e : EltTy} (v : View sig .tc sp s e) {off off' : Fin s.rank → ℕ} (inb : ∀ a, off a + s.size a ≤ s.size a)
    (inb' : ∀ a, off' a + s.size a ≤ s.size a) (w : (Rect.unit off' s.size inb').shape.Idx → Elt F e) (L : List (View.Piece (Elt F) s e)) :
    v.readCov ((⟨Rect.unit off' (no_index s.size) inb', w⟩ : View.Piece (Elt F) s e) :: L) (Rect.unit off (no_index s.size) inb).toLoadRect = w :=
  View.readCov_full v inb inb' w L

theorem rwF {sp : Space} {s : Shape} {e : EltTy} (v : View sig .tc sp s e) (f : v.ty.Contents (Elt F)) {off : Fin s.rank → ℕ} (inb : ∀ a, off a + s.size a ≤ s.size a)
    (w : (Rect.unit off s.size inb).shape.Idx → Elt F e) (L : List (View.Piece (Elt F) s e)) :
    v.read (Elt F) (v.writes (Elt F) f ((⟨Rect.unit off (no_index s.size) inb, w⟩ : View.Piece (Elt F) s e) :: L)) = w :=
  View.read_writes_full v f inb w L

theorem rsF {sp : Space} {s : Shape} {e : EltTy} (v : View sig .tc sp s e) (f : v.ty.Contents (Elt F)) {off : Fin s.rank → ℕ} (inb : ∀ a, off a + s.size a ≤ s.size a)
    (w : (Rect.unit off s.size inb).shape.Idx → Elt F e) :
    v.read (Elt F) ((v.slice (Rect.unit off (no_index s.size) inb)).write (Elt F) f w Finset.univ) = w :=
  View.read_writes_full v f inb w []

theorem ST_zero (mb : IVec S16x96 1) (D U : Vec F S256x2048 .f32) (P : Vec F S256x96 .f32) (A S0 : Vec F S16x2048 .f32) :
    ST mb D U P A S0 (16 * 0) = S0 := rfl

theorem mixY_all (Y G : Vec F S256x2048 .f32) : mixY Y G 16 = Y :=
  funext fun y => if_pos (by have h0 : (y 0).val < 256 := (y 0).isLt; omega)

theorem trips16 : Scf.trips k0_t1_loop.lb k0_t1_loop.ub k0_t1_loop.st = 16 := by decide

set_option maxHeartbeats 4000000 in
/-- A block that is not the first of its sequence: from the carried rows, the state and the decay it finds. -/
theorem next (c : Dev nD) (E : Set ℕ) (i : grid0.Coords) (arg2 : Memref sig .tc .vmem S256x1024 .f32) (harg2 : arg2.IsWhole) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4x2048 .f32) (harg7 : arg7.IsWhole) (arg8 : Memref sig .tc .vmem S1x2048 .f32) (harg8 : arg8.IsWhole) (arg9 : Memref sig .tc .vmem S2048x96 .bf16) (harg9 : arg9.IsWhole) (arg10 : Memref sig .tc .vmem S64x2048 .bf16) (harg10 : arg10.IsWhole) (arg11 : Memref sig .tc .vmem S1x2048 .f32) (harg11 : arg11.IsWhole) (arg12 : Memref sig .tc .vmem S16x2048 .f32) (harg12 : arg12.IsWhole) (arg13 : Memref sig .tc .vmem S1x2048 .f32) (harg13 : arg13.IsWhole) (arg14 : Memref sig .tc .vmem S256x1024 .f32) (harg14 : arg14.IsWhole) (arg15 : Memref sig .tc .vmem S256x2048 .bf16) (harg15 : arg15.IsWhole) (arg16 : Memref sig .tc .vmem S264x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x96 .f32) (harg19 : arg19.IsWhole) (arg20 : Memref sig .tc .vmem S256x2048 .f32) (harg20 : arg20.IsWhole) (arg21 : Memref sig .tc .vmem S16x2048 .f32) (harg21 : arg21.IsWhole) (arg22 : Memref sig .tc .vmem S8x2048 .f32) (harg22 : arg22.IsWhole) (arg23 : Memref sig .tc .vmem S16x2048 .f32) (harg23 : arg23.IsWhole) (arg24 : Memref sig .tc .vmem S2x128x2048 .bf16) (harg24 : arg24.IsWhole) (arg25 : Memref sig .tc .vmem S256x2048 .f32) (harg25 : arg25.IsWhole) (arg26 : Memref sig .tc .vmem S256x2048 .f32) (harg26 : arg26.IsWhole)
    (x2 : Vec F S256x1024 .f32) (x3 : Vec F S256x2048 .bf16) (x4 : Vec F S2048x1024 .bf16) (x5 : Vec F S1x1024 .f32) (x6 : Vec F S1024x4096 .bf16) (x7 : Vec F S4x2048 .f32) (x8 : Vec F S1x2048 .f32) (x9 : Vec F S2048x96 .bf16) (x10 : Vec F S64x2048 .bf16) (x11 : Vec F S1x2048 .f32) (x12 : Vec F S16x2048 .f32) (x13 : Vec F S1x2048 .f32) (x21 : Vec F S16x2048 .f32) (x22 : Vec F S8x2048 .f32) (x23 : Vec F S16x2048 .f32)
    (hc : ¬ (Scalar.cmpi .ne (Scalar.extui (Scalar.cmpi .eq (BitVec.ofNat 32 (i 1).val) 0#32)) 0#32 : BitVec 1) = 1#1) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x21 ∗ owns (c : Thread nD τ) arg22 fullShare x22 ∗ owns (c : Thread nD τ) arg23 fullShare x23 ∗ (∃ d, owns (c : Thread nD τ) arg24 fullShare d) ∗ (∃ d, owns (c : Thread nD τ) arg25 fullShare d) ∗ (∃ d, owns (c : Thread nD τ) arg26 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (k0_pay73 x2 x3 x4) ∗ owns (c : Thread nD τ) arg15 fullShare (yB x22 (xiB x2 x3 x4 x5 x6) (zsB x2 x3 x4 x5 x6) x7 x8 x9 x10 x11 x13 x21 x23) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare (stB x22 (xiB x2 x3 x4 x5 x6) x7 x8 x9 x10 x11 x21 x23) ∗ owns (c : Thread nD τ) arg22 fullShare (cvB (xiB x2 x3 x4 x5 x6)) ∗ owns (c : Thread nD τ) arg23 fullShare x23 ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) E (cc0_m1_mid_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_m1_mid_mixer_eq_skeleton]; unfold cc0_m1_mid_mixer_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, ⟨%f23, %hf23, H23⟩, ⟨%d24, %f24, -, H24⟩, ⟨%d25, %f25, -, H25⟩, ⟨%d26, %f26, -, H26⟩, Hk⟩
  subst hf2 hf3 hf4 hf5 hf6 hf7 hf8 hf9 hf10 hf11 hf12 hf13 hf21 hf22 hf23
  sl_exec (disch := sl_exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr; swap; · iexact H14
    ipureintro
    delta next.sl.v102 next.sl.v103 next.sl.r next.sl.r_1 next.sl.r_2 next.sl.r_3 next.sl.H26_1 next.sl.H25_1 next.sl.H14_1 next.sl.H17_1 next.sl.H16_2 next.sl.H18_1 next.sl.H19_1 next.sl.H22_1 next.sl.v146 next.sl.v147 next.sl.v150 next.sl.v61 next.sl.v40 next.sl.v67 next.sl.v55 next.sl.v48
    beta_reduce
    simp only [rdF, rcF, rwF, rsF, ld_xw _ _ _ _ _ _ rfl rfl 5 5 rfl rfl, ld_xw _ _ _ _ _ _ rfl rfl 6 6 rfl rfl, ld_xw _ _ _ _ _ _ rfl rfl 7 7 rfl rfl, ld_xw _ _ _ _ _ _ rfl rfl 8 8 rfl rfl, ld_tail _ _ _ _ _ _ rfl rfl rfl, ld_cw _ _ _ 0 0 rfl rfl, ld_cw _ _ _ 1 1 rfl rfl, ld_cw _ _ _ 2 2 rfl rfl, ld_cw _ _ _ 3 3 rfl rfl, Nat.reduceMul]
    try rfl
  isplitl [H15]
  · iexists _; isplitr; swap; · iexact H15
    ipureintro
    refine (View.read_writes_full _ _ _ _ _).trans ?_
    delta next.sl.v147
    rw [trips16, View.readAt_full, read_loopC, mixY_all]
    · delta next.sl.v102 next.sl.v103 next.sl.r next.sl.r_1 next.sl.r_2 next.sl.r_3 next.sl.H26_1 next.sl.H25_1 next.sl.H14_1 next.sl.H17_1 next.sl.H16_2 next.sl.H18_1 next.sl.H19_1 next.sl.H22_1 next.sl.v146 next.sl.v147 next.sl.v150 next.sl.v61 next.sl.v40 next.sl.v67 next.sl.v55 next.sl.v48
      beta_reduce
      simp only [rdF, rcF, rwF, rsF, ld_xw _ _ _ _ _ _ rfl rfl 5 5 rfl rfl, ld_xw _ _ _ _ _ _ rfl rfl 6 6 rfl rfl, ld_xw _ _ _ _ _ _ rfl rfl 7 7 rfl rfl, ld_xw _ _ _ _ _ _ rfl rfl 8 8 rfl rfl, ld_tail _ _ _ _ _ _ rfl rfl rfl, ld_cw _ _ _ 0 0 rfl rfl, ld_cw _ _ _ 1 1 rfl rfl, ld_cw _ _ _ 2 2 rfl rfl, ld_cw _ _ _ 3 3 rfl rfl, Nat.reduceMul]
      unfold yB dlB uB dbB xcB accB x8B xiB zsB mB mC
      rfl
    · exact (funext fun y => if_neg (by omega)).symm
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _; isplitr; swap; · iexact H21
    ipureintro
    rw [trips16, read_loopC]
    · delta next.sl.v102 next.sl.v103 next.sl.r next.sl.r_1 next.sl.r_2 next.sl.r_3 next.sl.H26_1 next.sl.H25_1 next.sl.H14_1 next.sl.H17_1 next.sl.H16_2 next.sl.H18_1 next.sl.H19_1 next.sl.H22_1 next.sl.v146 next.sl.v147 next.sl.v150 next.sl.v61 next.sl.v40 next.sl.v67 next.sl.v55 next.sl.v48
      beta_reduce
      simp only [rdF, rcF, rwF, rsF, ld_xw _ _ _ _ _ _ rfl rfl 5 5 rfl rfl, ld_xw _ _ _ _ _ _ rfl rfl 6 6 rfl rfl, ld_xw _ _ _ _ _ _ rfl rfl 7 7 rfl rfl, ld_xw _ _ _ _ _ _ rfl rfl 8 8 rfl rfl, ld_tail _ _ _ _ _ _ rfl rfl rfl, ld_cw _ _ _ 0 0 rfl rfl, ld_cw _ _ _ 1 1 rfl rfl, ld_cw _ _ _ 2 2 rfl rfl, ld_cw _ _ _ 3 3 rfl rfl, Nat.reduceMul]
      unfold stB dlB uB dbB accB x8B xiB mB
      rfl
    · exact (ST_zero _ _ _ _ _ _).symm
  isplitl [H22]
  · iexists _; isplitr; swap; · iexact H22
    ipureintro
    delta next.sl.v102 next.sl.v103 next.sl.r next.sl.r_1 next.sl.r_2 next.sl.r_3 next.sl.H26_1 next.sl.H25_1 next.sl.H14_1 next.sl.H17_1 next.sl.H16_2 next.sl.H18_1 next.sl.H19_1 next.sl.H22_1 next.sl.v146 next.sl.v147 next.sl.v150 next.sl.v61 next.sl.v40 next.sl.v67 next.sl.v55 next.sl.v48
    beta_reduce
    simp only [rdF, rcF, rwF, rsF, ld_xw _ _ _ _ _ _ rfl rfl 5 5 rfl rfl, ld_xw _ _ _ _ _ _ rfl rfl 6 6 rfl rfl, ld_xw _ _ _ _ _ _ rfl rfl 7 7 rfl rfl, ld_xw _ _ _ _ _ _ rfl rfl 8 8 rfl rfl, ld_tail _ _ _ _ _ _ rfl rfl rfl, ld_cw _ _ _ 0 0 rfl rfl, ld_cw _ _ _ 1 1 rfl rfl, ld_cw _ _ _ 2 2 rfl rfl, ld_cw _ _ _ 3 3 rfl rfl, Nat.reduceMul]
    unfold cvB xiB
    rfl
  isplitl [H23]
  · iexists _; isplitr; swap; · iexact H23
    ipureintro
    rfl
  isplitl [H24]
  · iexists _, _; isplitr; swap; · iexact H24
    ipureintro; rfl
  isplitl [H25]
  · iexists _, _; isplitr; swap; · iexact H25
    ipureintro; rfl
  iexists _, _; isplitr; swap; · iexact H26
  ipureintro; rfl

set_option maxHeartbeats 4000000 in
/-- The first block of a sequence: the carried rows and the state start at zero, the decay is computed. -/
theorem first (c : Dev nD) (E : Set ℕ) (i : grid0.Coords) (arg2 : Memref sig .tc .vmem S256x1024 .f32) (harg2 : arg2.IsWhole) (arg3 : Memref sig .tc .vmem S256x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4x2048 .f32) (harg7 : arg7.IsWhole) (arg8 : Memref sig .tc .vmem S1x2048 .f32) (harg8 : arg8.IsWhole) (arg9 : Memref sig .tc .vmem S2048x96 .bf16) (harg9 : arg9.IsWhole) (arg10 : Memref sig .tc .vmem S64x2048 .bf16) (harg10 : arg10.IsWhole) (arg11 : Memref sig .tc .vmem S1x2048 .f32) (harg11 : arg11.IsWhole) (arg12 : Memref sig .tc .vmem S16x2048 .f32) (harg12 : arg12.IsWhole) (arg13 : Memref sig .tc .vmem S1x2048 .f32) (harg13 : arg13.IsWhole) (arg14 : Memref sig .tc .vmem S256x1024 .f32) (harg14 : arg14.IsWhole) (arg15 : Memref sig .tc .vmem S256x2048 .bf16) (harg15 : arg15.IsWhole) (arg16 : Memref sig .tc .vmem S264x2048 .f32) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x96 .f32) (harg19 : arg19.IsWhole) (arg20 : Memref sig .tc .vmem S256x2048 .f32) (harg20 : arg20.IsWhole) (arg21 : Memref sig .tc .vmem S16x2048 .f32) (harg21 : arg21.IsWhole) (arg22 : Memref sig .tc .vmem S8x2048 .f32) (harg22 : arg22.IsWhole) (arg23 : Memref sig .tc .vmem S16x2048 .f32) (harg23 : arg23.IsWhole) (arg24 : Memref sig .tc .vmem S2x128x2048 .bf16) (harg24 : arg24.IsWhole) (arg25 : Memref sig .tc .vmem S256x2048 .f32) (harg25 : arg25.IsWhole) (arg26 : Memref sig .tc .vmem S256x2048 .f32) (harg26 : arg26.IsWhole)
    (x2 : Vec F S256x1024 .f32) (x3 : Vec F S256x2048 .bf16) (x4 : Vec F S2048x1024 .bf16) (x5 : Vec F S1x1024 .f32) (x6 : Vec F S1024x4096 .bf16) (x7 : Vec F S4x2048 .f32) (x8 : Vec F S1x2048 .f32) (x9 : Vec F S2048x96 .bf16) (x10 : Vec F S64x2048 .bf16) (x11 : Vec F S1x2048 .f32) (x12 : Vec F S16x2048 .f32) (x13 : Vec F S1x2048 .f32)
    (hc : (Scalar.cmpi .ne (Scalar.extui (Scalar.cmpi .eq (BitVec.ofNat 32 (i 1).val) 0#32)) 0#32 : BitVec 1) = 1#1) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (k0_pay73 x2 x3 x4) ∗ owns (c : Thread nD τ) arg15 fullShare (yB k0_pay75 (xiB x2 x3 x4 x5 x6) (zsB x2 x3 x4 x5 x6) x7 x8 x9 x10 x11 x13 k0_pay76 (k0_pay77 x12)) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare (stB k0_pay75 (xiB x2 x3 x4 x5 x6) x7 x8 x9 x10 x11 k0_pay76 (k0_pay77 x12)) ∗ owns (c : Thread nD τ) arg22 fullShare (cvB (xiB x2 x3 x4 x5 x6)) ∗ owns (c : Thread nD τ) arg23 fullShare (k0_pay77 x12) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) E (cc0_m1_mid_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_m1_mid_mixer_eq_skeleton]; unfold cc0_m1_mid_mixer_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf2 hf3 hf4 hf5 hf6 hf7 hf8 hf9 hf10 hf11 hf12 hf13
  sl_exec (disch := sl_exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr; swap; · iexact H14
    ipureintro
    delta first.sl.v102 first.sl.v103 first.sl.r first.sl.r_1 first.sl.r_2 first.sl.r_3 first.sl.H26_1 first.sl.H25_1 first.sl.H14_1 first.sl.H17_1 first.sl.H16_2 first.sl.H18_1 first.sl.H19_1 first.sl.H22_1 first.sl.v146 first.sl.v147 first.sl.v150 first.sl.v61 first.sl.v40 first.sl.v67 first.sl.v55 first.sl.v48 first.sl.H21_1 first.sl.H22_2 first.sl.H23_1 first.sl.v33
    beta_reduce
    simp only [rdF, rcF, rwF, rsF, ld_xw _ _ _ _ _ _ rfl rfl 5 5 rfl rfl, ld_xw _ _ _ _ _ _ rfl rfl 6 6 rfl rfl, ld_xw _ _ _ _ _ _ rfl rfl 7 7 rfl rfl, ld_xw _ _ _ _ _ _ rfl rfl 8 8 rfl rfl, ld_tail _ _ _ _ _ _ rfl rfl rfl, ld_cw _ _ _ 0 0 rfl rfl, ld_cw _ _ _ 1 1 rfl rfl, ld_cw _ _ _ 2 2 rfl rfl, ld_cw _ _ _ 3 3 rfl rfl, Nat.reduceMul]
    try rfl
  isplitl [H15]
  · iexists _; isplitr; swap; · iexact H15
    ipureintro
    refine (View.read_writes_full _ _ _ _ _).trans ?_
    delta first.sl.v147
    rw [trips16, View.readAt_full, read_loopC, mixY_all]
    · delta first.sl.v102 first.sl.v103 first.sl.r first.sl.r_1 first.sl.r_2 first.sl.r_3 first.sl.H26_1 first.sl.H25_1 first.sl.H14_1 first.sl.H17_1 first.sl.H16_2 first.sl.H18_1 first.sl.H19_1 first.sl.H22_1 first.sl.v146 first.sl.v147 first.sl.v150 first.sl.v61 first.sl.v40 first.sl.v67 first.sl.v55 first.sl.v48 first.sl.H21_1 first.sl.H22_2 first.sl.H23_1 first.sl.v33
      beta_reduce
      simp only [rdF, rcF, rwF, rsF, ld_xw _ _ _ _ _ _ rfl rfl 5 5 rfl rfl, ld_xw _ _ _ _ _ _ rfl rfl 6 6 rfl rfl, ld_xw _ _ _ _ _ _ rfl rfl 7 7 rfl rfl, ld_xw _ _ _ _ _ _ rfl rfl 8 8 rfl rfl, ld_tail _ _ _ _ _ _ rfl rfl rfl, ld_cw _ _ _ 0 0 rfl rfl, ld_cw _ _ _ 1 1 rfl rfl, ld_cw _ _ _ 2 2 rfl rfl, ld_cw _ _ _ 3 3 rfl rfl, Nat.reduceMul]
      unfold yB dlB uB dbB xcB accB x8B xiB zsB mB mC
      rfl
    · exact (funext fun y => if_neg (by omega)).symm
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _; isplitr; swap; · iexact H21
    ipureintro
    rw [trips16, read_loopC]
    · delta first.sl.v102 first.sl.v103 first.sl.r first.sl.r_1 first.sl.r_2 first.sl.r_3 first.sl.H26_1 first.sl.H25_1 first.sl.H14_1 first.sl.H17_1 first.sl.H16_2 first.sl.H18_1 first.sl.H19_1 first.sl.H22_1 first.sl.v146 first.sl.v147 first.sl.v150 first.sl.v61 first.sl.v40 first.sl.v67 first.sl.v55 first.sl.v48 first.sl.H21_1 first.sl.H22_2 first.sl.H23_1 first.sl.v33
      beta_reduce
      simp only [rdF, rcF, rwF, rsF, ld_xw _ _ _ _ _ _ rfl rfl 5 5 rfl rfl, ld_xw _ _ _ _ _ _ rfl rfl 6 6 rfl rfl, ld_xw _ _ _ _ _ _ rfl rfl 7 7 rfl rfl, ld_xw _ _ _ _ _ _ rfl rfl 8 8 rfl rfl, ld_tail _ _ _ _ _ _ rfl rfl rfl, ld_cw _ _ _ 0 0 rfl rfl, ld_cw _ _ _ 1 1 rfl rfl, ld_cw _ _ _ 2 2 rfl rfl, ld_cw _ _ _ 3 3 rfl rfl, Nat.reduceMul]
      unfold stB dlB uB dbB accB x8B xiB mB
      rfl
    · exact (ST_zero _ _ _ _ _ _).symm
  isplitl [H22]
  · iexists _; isplitr; swap; · iexact H22
    ipureintro
    delta first.sl.v102 first.sl.v103 first.sl.r first.sl.r_1 first.sl.r_2 first.sl.r_3 first.sl.H26_1 first.sl.H25_1 first.sl.H14_1 first.sl.H17_1 first.sl.H16_2 first.sl.H18_1 first.sl.H19_1 first.sl.H22_1 first.sl.v146 first.sl.v147 first.sl.v150 first.sl.v61 first.sl.v40 first.sl.v67 first.sl.v55 first.sl.v48 first.sl.H21_1 first.sl.H22_2 first.sl.H23_1 first.sl.v33
    beta_reduce
    simp only [rdF, rcF, rwF, rsF, ld_xw _ _ _ _ _ _ rfl rfl 5 5 rfl rfl, ld_xw _ _ _ _ _ _ rfl rfl 6 6 rfl rfl, ld_xw _ _ _ _ _ _ rfl rfl 7 7 rfl rfl, ld_xw _ _ _ _ _ _ rfl rfl 8 8 rfl rfl, ld_tail _ _ _ _ _ _ rfl rfl rfl, ld_cw _ _ _ 0 0 rfl rfl, ld_cw _ _ _ 1 1 rfl rfl, ld_cw _ _ _ 2 2 rfl rfl, ld_cw _ _ _ 3 3 rfl rfl, Nat.reduceMul]
    unfold cvB xiB
    rfl
  isplitl [H23]
  · iexists _; isplitr; swap; · iexact H23
    ipureintro
    delta first.sl.v102 first.sl.v103 first.sl.r first.sl.r_1 first.sl.r_2 first.sl.r_3 first.sl.H26_1 first.sl.H25_1 first.sl.H14_1 first.sl.H17_1 first.sl.H16_2 first.sl.H18_1 first.sl.H19_1 first.sl.H22_1 first.sl.v146 first.sl.v147 first.sl.v150 first.sl.v61 first.sl.v40 first.sl.v67 first.sl.v55 first.sl.v48 first.sl.H21_1 first.sl.H22_2 first.sl.H23_1 first.sl.v33
    beta_reduce
    simp only [rdF, rcF, rwF, rsF, ld_xw _ _ _ _ _ _ rfl rfl 5 5 rfl rfl, ld_xw _ _ _ _ _ _ rfl rfl 6 6 rfl rfl, ld_xw _ _ _ _ _ _ rfl rfl 7 7 rfl rfl, ld_xw _ _ _ _ _ _ rfl rfl 8 8 rfl rfl, ld_tail _ _ _ _ _ _ rfl rfl rfl, ld_cw _ _ _ 0 0 rfl rfl, ld_cw _ _ _ 1 1 rfl rfl, ld_cw _ _ _ 2 2 rfl rfl, ld_cw _ _ _ 3 3 rfl rfl, Nat.reduceMul]
    try rfl
  isplitl [H24]
  · iexists _, _; isplitr; swap; · iexact H24
    ipureintro; rfl
  isplitl [H25]
  · iexists _, _; isplitr; swap; · iexact H25
    ipureintro; rfl
  iexists _, _; isplitr; swap; · iexact H26
  ipureintro; rfl

end Cert.MidIdeal.Body
-- ==== Proof.Spec.lean ====
/- The middle layer's mathematics, element by element over the extended reals: one residual step, the layer's normalisation and
   projections, the causal convolution, the selective scan and the gate. Both programs are read down to these functions. -/
module

public import Idealize.ShloMosaic.Lib.Pipeline.ValueKit

@[expose] public section

noncomputable section

open Idealize.ShloMosaic

namespace Cert.MidSpec

/-- The arguments by their coordinates. -/
structure Args where
  a0 : Fin 4096 → Fin 1024 → EReal
  a1 : Fin 4096 → Fin 2048 → EReal
  a2 : Fin 2 → Fin 2048 → Fin 1024 → EReal
  a3 : Fin 2 → Fin 1024 → EReal
  a4 : Fin 2 → Fin 1024 → Fin 4096 → EReal
  a5 : Fin 2 → Fin 2048 → Fin 4 → EReal
  a6 : Fin 2 → Fin 2048 → EReal
  a7 : Fin 2 → Fin 2048 → Fin 96 → EReal
  a8 : Fin 2 → Fin 64 → Fin 2048 → EReal
  a9 : Fin 2 → Fin 2048 → EReal
  a10 : Fin 2 → Fin 2048 → Fin 16 → EReal
  a11 : Fin 2 → Fin 2048 → EReal

variable (P : Args)

/-- Position `l` of sequence `b` among the rows. -/
def rw (b : Fin 4) (l : Fin 1024) : Fin 4096 := ⟨↑b * 1024 + ↑l, by omega⟩

/-- The residual stream after the first layer. -/
def X1 (r : Fin 4096) (d : Fin 1024) : EReal := P.a0 r d + ∑ x, P.a1 r x * P.a2 0 x d

/-- The inverse root mean square of a row. -/
def RS (r : Fin 4096) : EReal :=
  Ideal.rsqrt (Ideal.div (∑ x, X1 P r x * X1 P r x) (Ideal.ofBits FTy.f32 1149239296#32) + Ideal.ofBits FTy.f32 925353388#32)

/-- The input projection of a normalised row. -/
def XZ (r : Fin 4096) (e : Fin 4096) : EReal := ∑ x, X1 P r x * RS P r * P.a3 1 x * P.a4 1 x e

/-- The convolved branch before the convolution. -/
def XI (b : Fin 4) (l : Fin 1024) (d : Fin 2048) : EReal := XZ P (rw b l) ⟨↑d, by omega⟩

/-- The gating branch. -/
def ZZ (b : Fin 4) (l : Fin 1024) (d : Fin 2048) : EReal := XZ P (rw b l) ⟨2048 + ↑d, by omega⟩

/-- The convolved branch with three zero positions before the sequence. -/
def XIP (b : Fin 4) (k : ℕ) (d : Fin 2048) : EReal :=
  if h : 3 ≤ k ∧ k - 3 < 1024 then XI P b ⟨k - 3, h.2⟩ d else 0

/-- The causal convolution. -/
def CV (b : Fin 4) (l : Fin 1024) (d : Fin 2048) : EReal :=
  P.a6 1 d + (XIP P b ↑l d * P.a5 1 d 0 + XIP P b (1 + ↑l) d * P.a5 1 d 1 + XIP P b (2 + ↑l) d * P.a5 1 d 2
    + XI P b l d * P.a5 1 d 3)

/-- `x · σ(x)`. -/
def silu (x : EReal) : EReal := x * Ideal.div 1 (1 + Ideal.exp (-x))

/-- The convolved branch after its activation. -/
def XC (b : Fin 4) (l : Fin 1024) (d : Fin 2048) : EReal := silu (CV P b l d)

/-- The projection to the step's rank-64 part, the input mask and the output mask. -/
def DB (b : Fin 4) (l : Fin 1024) (k : Fin 96) : EReal := ∑ x, XC P b l x * P.a7 1 x k

/-- The step before its softplus. -/
def DLN (b : Fin 4) (l : Fin 1024) (d : Fin 2048) : EReal :=
  (∑ x : Fin 64, DB P b l ⟨↑x, by omega⟩ * P.a8 1 x d) + P.a9 1 d

/-- The softplus as the reference spells it. -/
def sp (x : EReal) : EReal := max x 0 + Ideal.log1p (Ideal.exp (-@FloatOps.absf Ideal _ FTy.f32 x))

/-- The step. -/
def DL (b : Fin 4) (l : Fin 1024) (d : Fin 2048) : EReal := sp (DLN P b l d)

/-- The decay rates. -/
def AA (d : Fin 2048) (n : Fin 16) : EReal := -Ideal.exp (P.a10 1 d n)

/-- The state after `k` positions. -/
def SS (b : Fin 4) : ℕ → Fin 2048 → Fin 16 → EReal
  | 0 => fun _ _ => 0
  | k + 1 => fun d n => if h : k < 1024 then
      Ideal.exp (DL P b ⟨k, h⟩ d * AA P d n) * SS b k d n + DL P b ⟨k, h⟩ d * XC P b ⟨k, h⟩ d * DB P b ⟨k, h⟩ ⟨64 + ↑n, by omega⟩
    else 0

/-- The scan's output. -/
def YY (b : Fin 4) (l : Fin 1024) (d : Fin 2048) : EReal := ∑ n : Fin 16, SS P b (l + 1) d n * DB P b l ⟨80 + ↑n, by omega⟩

/-- The layer's gated output. -/
def OUT (b : Fin 4) (l : Fin 1024) (d : Fin 2048) : EReal :=
  (YY P b l d + P.a11 1 d * XC P b l d) * silu (ZZ P b l d)

end Cert.MidSpec

end
-- ==== Proof.KVal.lean ====
/- The kernel's block values read down to the shared functions. -/
module

public import proofs.«01_k».proof.Proof.Body
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MidIdeal.KVal

open Cert.MidIdeal Cert.MidIdeal.Gen Cert.MidIdeal.Scan Cert.MidIdeal.Body Cert.MidSpec

variable (P : Args) (b q : Fin 4)

/-- Row `r` of block `q` as a position. -/
def lq (q : Fin 4) (r : Fin 256) : Fin 1024 := ⟨256 * ↑q + ↑r, by omega⟩

/-- The two spellings of softplus agree up to the switch point. -/
theorem soft (x : EReal) (hx : x ≤ Ideal.ofBits .f32 0x41A00000#32) :
    (if Ideal.ofBits .f32 0x41A00000#32 < x then x else Ideal.log1p (Ideal.exp (min x (Ideal.ofBits .f32 0x41A00000#32)))) = sp x := by
  rw [if_neg (not_lt.mpr hx), min_eq_left hx]
  have hT : Ideal.ofBits .f32 0x41A00000#32 ≠ ⊤ := by
    simp [Ideal.ofBits, Ideal.ieee]
    exact EReal.coe_ne_top _
  have hl (y : ℝ) : Ideal.log1p (Ideal.exp (y : EReal)) = ((Real.log (1 + Real.exp y) : ℝ) : EReal) := by
    show Ideal.log (((1 : ℝ) : EReal) + ((Real.exp y : ℝ) : EReal)) = _
    rw [← EReal.coe_add]
    show (if 1 + Real.exp y ≤ 0 then (⊥ : EReal) else _) = _
    rw [if_neg (by have := Real.exp_pos y; linarith)]
  have hb : Ideal.log1p (Ideal.exp (⊥ : EReal)) = 0 := by
    show Ideal.log (1 + 0) = 0
    rw [add_zero]
    show (if (1 : ℝ) ≤ 0 then (⊥ : EReal) else ((Real.log 1 : ℝ) : EReal)) = 0
    rw [if_neg (by norm_num), Real.log_one]; rfl
  unfold sp
  show _ = max x 0 + Ideal.log1p (Ideal.exp (-max x (-x)))
  induction x with
  | bot => simp [hb]
  | top => exact absurd (top_le_iff.mp hx) hT
  | coe r =>
    have e1 : -max (r : EReal) (-(r : EReal)) = ((-|r| : ℝ) : EReal) := by
      rw [← EReal.coe_neg, ← EReal.coe_strictMono.monotone.map_max, ← EReal.coe_neg]; rfl
    have e2 : max (r : EReal) 0 = ((max r 0 : ℝ) : EReal) := by
      rw [EReal.coe_strictMono.monotone.map_max]; rfl
    rw [e1, e2, hl, hl, ← EReal.coe_add]
    congr 1
    rcases le_total 0 r with h | h
    · rw [abs_of_nonneg h, max_eq_left h]
      have : 1 + Real.exp r = Real.exp r * (1 + Real.exp (-r)) := by
        rw [mul_add, ← Real.exp_add, add_neg_cancel, Real.exp_zero]; ring
      rw [this, Real.log_mul (Real.exp_pos r).ne' (by positivity), Real.log_exp]
    · rw [abs_of_nonpos h, max_eq_right h, neg_neg, zero_add]

/-! ## Residual step, normalisation, input projection -/

section
variable (x2 : Vec Ideal S256x1024 .f32) (x3 : Vec Ideal S256x2048 .bf16) (x4 : Vec Ideal S2048x1024 .bf16) (x5 : Vec Ideal S1x1024 .f32)
  (x6 : Vec Ideal S1024x4096 .bf16)
  (h0 : ∀ r d, x2 (ix2 r d) = P.a0 (Cert.MidSpec.rw b (lq q r)) d) (h1 : ∀ r d, x3 (ix2 r d) = P.a1 (Cert.MidSpec.rw b (lq q r)) d)
  (h2 : ∀ k d, x4 (ix2 k d) = P.a2 0 k d) (h3 : ∀ d, x5 (ix2 0 d) = P.a3 1 d) (h4 : ∀ k d, x6 (ix2 k d) = P.a4 1 k d)
include h0 h1 h2

theorem x1_at (r : Fin 256) (d : Fin 1024) : k0_pay73 x2 x3 x4 (ix2 r d) = X1 P (Cert.MidSpec.rw b (lq q r)) d := by
  pointwise [k0_pay73]
  simp only [h0, h1, h2]
  rfl

include h3 h4

theorem xz_at (r : Fin 256) (e : Fin 4096) : k0_pay74 x2 x3 x4 x5 x6 (ix2 r e) = XZ P (Cert.MidSpec.rw b (lq q r)) e := by
  have h := x1_at P b q x2 x3 x4 h0 h1 h2
  unfold k0_pay74
  generalize k0_pay73 x2 x3 x4 = X at h ⊢
  pointwise []
  simp only [h, h3, h4]
  rfl

theorem xi_at (r : Fin 256) (d : Fin 2048) : xiB x2 x3 x4 x5 x6 (ix2 r d) = XI P b (lq q r) d := by
  have h := xz_at P b q x2 x3 x4 x5 x6 h0 h1 h2 h3 h4
  unfold xiB k0_pay79
  generalize k0_pay74 x2 x3 x4 x5 x6 = X at h ⊢
  pointwise []
  rw [h]
  rfl

theorem zs_at (r : Fin 256) (d : Fin 2048) : zsB x2 x3 x4 x5 x6 (ix2 r d) = ZZ P b (lq q r) d := by
  have h := xz_at P b q x2 x3 x4 x5 x6 h0 h1 h2 h3 h4
  unfold zsB k0_pay78
  generalize k0_pay74 x2 x3 x4 x5 x6 = X at h ⊢
  pointwise []
  rw [h]
  rfl
end

/-! ## Convolution -/

/-- The carried row `j` of a block: position `256 q + j − 8`, zero before the sequence. -/
def CIN (j : Fin 8) (d : Fin 2048) : EReal := if h : 8 ≤ 256 * q.val + j.val then XI P b ⟨256 * ↑q + ↑j - 8, by omega⟩ d else 0

section
variable (C : Vec Ideal S8x2048 .f32) (X : Vec Ideal S256x2048 .f32) (hX : ∀ r d, X (ix2 r d) = XI P b (lq q r) d)
  (hC : ∀ j d, C (ix2 j d) = CIN P b q j d)

include hX hC in
theorem xw_at (o : Fin 9) (ho : 5 ≤ o.val) (r : Fin 256) (d : Fin 2048) :
    xw (F := Ideal) (k0_pay80 (F := Ideal) C) (k0_pay81 (F := Ideal) X) o (ix2 r d) = XIP P b (o.val - 5 + (lq q r).val) d := by
  have hC' (j d) : (k0_pay80 (F := Ideal) C : Vec Ideal S8x2048 .f32) (ix2 j d) = CIN P b q j d := by pointwise [k0_pay80]; exact hC j d
  have hX' (r d) : (k0_pay81 (F := Ideal) X : Vec Ideal S256x2048 .f32) (ix2 r d) = XI P b (lq q r) d := by pointwise [k0_pay81]; exact hX r d
  generalize k0_pay80 (F := Ideal) C = C' at hC' ⊢
  generalize k0_pay81 (F := Ideal) X = X' at hX' ⊢
  have hv : (lq q r).val = 256 * q.val + r.val := rfl
  by_cases hl : o.val + r.val < 8
  · refine Eq.trans (b := CIN P b q ⟨o.val + r.val, hl⟩ d) ((dif_pos hl).trans (hC' _ d)) ?_
    unfold CIN XIP
    by_cases h8 : 8 ≤ 256 * q.val + (o.val + r.val)
    · rw [dif_pos h8, dif_pos (by omega)]
      exact congrArg (XI P b · d) (Fin.ext (by show 256 * q.val + (o.val + r.val) - 8 = o.val - 5 + (lq q r).val - 3; omega))
    · rw [dif_neg h8, dif_neg (by omega)]
  · refine Eq.trans (b := XI P b (lq q ⟨o.val + r.val - 8, by omega⟩) d) ((dif_neg hl).trans (hX' _ d)) ?_
    unfold XIP
    rw [dif_pos (by omega)]
    exact congrArg (XI P b · d) (Fin.ext (by show 256 * q.val + (o.val + r.val - 8) = o.val - 5 + (lq q r).val - 3; omega))

theorem tail_at (hX : ∀ r d, X (ix2 r d) = XI P b (lq q r) d) (q' : Fin 4) (hq : q'.val = q.val + 1) (j : Fin 8) (d : Fin 2048) :
    cvB X (ix2 j d) = CIN P b q' j d := by
  have hX' (r d) : (k0_pay81 (F := Ideal) X : Vec Ideal S256x2048 .f32) (ix2 r d) = XI P b (lq q r) d := by pointwise [k0_pay81]; exact hX r d
  unfold cvB
  generalize k0_pay81 (F := Ideal) X = X' at hX' ⊢
  pointwise [k0_pay82]
  refine (hX' _ d).trans ?_
  unfold CIN
  rw [dif_pos (by omega)]
  congr 1
  exact Fin.ext (by simp only [lq]; show 256 * q.val + (248 + j.val) = _; omega)

theorem zero_at (j : Fin 8) (d : Fin 2048) : (k0_pay75 : FVec Ideal S8x2048 .f32) (ix2 j d) = CIN P b 0 j d := by
  pointwise [k0_pay75]
  unfold CIN
  rw [dif_neg (by simp)]

variable (cw : Vec Ideal S4x2048 .f32) (cb : Vec Ideal S1x2048 .f32) (xp : Vec Ideal S2048x96 .bf16) (tw : Vec Ideal S64x2048 .bf16) (tb : Vec Ideal S1x2048 .f32)
  (h5 : ∀ k d, cw (ix2 k d) = P.a5 1 d k) (h6 : ∀ d, cb (ix2 0 d) = P.a6 1 d) (h7 : ∀ k d, xp (ix2 k d) = P.a7 1 k d)
  (h8 : ∀ k d, tw (ix2 k d) = P.a8 1 k d) (h9 : ∀ d, tb (ix2 0 d) = P.a9 1 d)

include hX hC h5 h6 in
theorem xc0_at (r : Fin 256) (d : Fin 2048) : k0_pay84 (F := Ideal) (accB C X cw cb) (cwR cw 3) (x8B C X) (ix2 r d) = XC P b (lq q r) d := by
  have e5 (r : Fin 256) (d : Fin 2048) : xw (F := Ideal) (k0_pay80 (F := Ideal) C) (k0_pay81 (F := Ideal) X) 5 (ix2 r d) = XIP P b (lq q r).val d :=
    (xw_at P b q C X hX hC 5 (by decide) r d).trans (congrArg (XIP P b · d) (Nat.zero_add _))
  have e6 (r : Fin 256) (d : Fin 2048) : xw (F := Ideal) (k0_pay80 (F := Ideal) C) (k0_pay81 (F := Ideal) X) 6 (ix2 r d) = XIP P b (1 + (lq q r).val) d :=
    xw_at P b q C X hX hC 6 (by decide) r d
  have e7 (r : Fin 256) (d : Fin 2048) : xw (F := Ideal) (k0_pay80 (F := Ideal) C) (k0_pay81 (F := Ideal) X) 7 (ix2 r d) = XIP P b (2 + (lq q r).val) d :=
    xw_at P b q C X hX hC 7 (by decide) r d
  have e8 (r : Fin 256) (d : Fin 2048) : xw (F := Ideal) (k0_pay80 (F := Ideal) C) (k0_pay81 (F := Ideal) X) 8 (ix2 r d) = XI P b (lq q r) d := by
    refine (xw_at P b q C X hX hC 8 (by decide) r d).trans ?_
    show XIP P b (3 + (lq q r).val) d = _
    unfold XIP
    rw [dif_pos (by omega)]
    congr 1
    exact Fin.ext (Nat.add_sub_cancel_left _ _)
  have ew (k d) : cwR (F := Ideal) cw k (ix2 0 d) = P.a5 1 d k := h5 k d
  unfold accB x8B
  generalize xw (F := Ideal) (k0_pay80 (F := Ideal) C) (k0_pay81 (F := Ideal) X) 5 = y5 at e5 ⊢
  generalize xw (F := Ideal) (k0_pay80 (F := Ideal) C) (k0_pay81 (F := Ideal) X) 6 = y6 at e6 ⊢
  generalize xw (F := Ideal) (k0_pay80 (F := Ideal) C) (k0_pay81 (F := Ideal) X) 7 = y7 at e7 ⊢
  generalize xw (F := Ideal) (k0_pay80 (F := Ideal) C) (k0_pay81 (F := Ideal) X) 8 = y8 at e8 ⊢
  generalize cwR (F := Ideal) cw = w at ew ⊢
  pointwise [k0_pay84, k0_pay83]
  simp only [e5, e6, e7, e8, ew, h6]
  refine congrArg silu ?_
  unfold CV
  simp only [mul_comm, add_assoc]

include hX hC h5 h6 in
theorem xc_at (r : Fin 256) (d : Fin 2048) : xcB C X cw cb (ix2 r d) = XC P b (lq q r) d := by
  have h := xc0_at P b q C X hX hC cw cb h5 h6
  unfold xcB k0_pay85
  generalize k0_pay84 (F := Ideal) (accB C X cw cb) (cwR cw 3) (x8B C X) = Y at h ⊢
  pointwise []
  exact h r d

include hX hC h5 h6 h7 in
theorem db0_at (r : Fin 256) (k : Fin 96) : k0_pay86 (F := Ideal) (accB C X cw cb) (cwR cw 3) (x8B C X) xp (ix2 r k) = DB P b (lq q r) k := by
  have h := xc0_at P b q C X hX hC cw cb h5 h6
  unfold k0_pay86
  generalize k0_pay84 (F := Ideal) (accB C X cw cb) (cwR cw 3) (x8B C X) = Y at h ⊢
  pointwise []
  simp only [h, h7]
  rfl

include hX hC h5 h6 h7 in
theorem db_at (r : Fin 256) (k : Fin 96) : dbB C X cw cb xp (ix2 r k) = DB P b (lq q r) k := by
  have h := db0_at P b q C X hX hC cw cb xp h5 h6 h7
  unfold dbB k0_pay87
  generalize k0_pay86 (F := Ideal) (accB C X cw cb) (cwR cw 3) (x8B C X) xp = Y at h ⊢
  pointwise []
  exact h r k

include hX hC h5 h6 h7 h8 h9 in
theorem dl0_at (hs : ∀ b l d, DLN P b l d ≤ Ideal.ofBits .f32 0x41A00000#32) (r : Fin 256) (d : Fin 2048) :
    k0_pay88 (F := Ideal) (accB C X cw cb) (cwR cw 3) (x8B C X) xp tw tb (ix2 r d) = DL P b (lq q r) d := by
  have h := db0_at P b q C X hX hC cw cb xp h5 h6 h7
  unfold k0_pay88
  generalize k0_pay86 (F := Ideal) (accB C X cw cb) (cwR cw 3) (x8B C X) xp = Y at h ⊢
  pointwise []
  simp only [h, h8, h9]
  exact soft _ (hs b (lq q r) d)

include hX hC h5 h6 h7 h8 h9 in
theorem dl_at (hs : ∀ b l d, DLN P b l d ≤ Ideal.ofBits .f32 0x41A00000#32) (r : Fin 256) (d : Fin 2048) :
    dlB C X cw cb xp tw tb (ix2 r d) = DL P b (lq q r) d := by
  have h := dl0_at P b q C X hX hC cw cb xp tw tb h5 h6 h7 h8 h9 hs
  unfold dlB k0_pay89
  generalize k0_pay88 (F := Ideal) (accB C X cw cb) (cwR cw 3) (x8B C X) xp tw tb = Y at h ⊢
  pointwise []
  exact h r d

include hX hC h5 h6 h7 h8 h9 in
theorem u_at (hs : ∀ b l d, DLN P b l d ≤ Ideal.ofBits .f32 0x41A00000#32) (r : Fin 256) (d : Fin 2048) :
    uB C X cw cb xp tw tb (ix2 r d) = DL P b (lq q r) d * XC P b (lq q r) d := by
  have h := dl0_at P b q C X hX hC cw cb xp tw tb h5 h6 h7 h8 h9 hs
  have h' := xc0_at P b q C X hX hC cw cb h5 h6
  unfold uB
  generalize k0_pay88 (F := Ideal) (accB C X cw cb) (cwR cw 3) (x8B C X) xp tw tb = Y at h ⊢
  generalize k0_pay84 (F := Ideal) (accB C X cw cb) (cwR cw 3) (x8B C X) = Z at h' ⊢
  pointwise [k0_pay93]
  rw [h, h']

end

/-! ## Masks -/

theorem mB_at : ∀ (n : Fin 16) (k : Fin 96), mB (ix2 n k) = if k = ⟨64 + ↑n, by omega⟩ then 1#1 else 0#1 := by decide +kernel
theorem mC_at : ∀ (n : Fin 16) (k : Fin 96), mC (ix2 n k) = if k = ⟨80 + ↑n, by omega⟩ then 1#1 else 0#1 := by decide +kernel

theorem cond_at : ∀ (r : Fin 8) (k : Fin 128),
    IntOp.cmpi CmpIPredicate.eq
        (Scalar.select
          (IntOp.andi
            (IntOp.cmpi CmpIPredicate.ne
              (IntOp.subi (BitVec.setWidth 32 (IntOp.cmpi CmpIPredicate.sgt (BitVec.ofNat 32 ↑k) 0#32))
                (BitVec.setWidth 32 (IntOp.cmpi CmpIPredicate.slt (BitVec.ofNat 32 ↑k) 0#32)))
              (Scalar.subi (Scalar.extui (Scalar.cmpi CmpIPredicate.sgt 16#32 0#32))
                (Scalar.extui (Scalar.cmpi CmpIPredicate.slt 16#32 0#32))))
            (IntOp.cmpi CmpIPredicate.ne (IntOp.remsi ArithUnit.vector (BitVec.ofNat 32 ↑k) 16#32) 0#32))
          (IntOp.subi (IntOp.divsi ArithUnit.vector (BitVec.ofNat 32 ↑k) 16#32) 1#32)
          (IntOp.divsi ArithUnit.vector (BitVec.ofNat 32 ↑k) 16#32))
        (BitVec.ofNat 32 ↑r) = if k.val / 16 = r.val then 1#1 else 0#1 := by decide +kernel

/-- A sum masked to one column is that column's entry. -/
theorem pick (f : Fin 96 → EReal) (a : Fin 96) : ∑ x, Scalar.select (if x = a then 1#1 else 0#1) (f x) (0 : EReal) = f a := by
  have h (x : Fin 96) : Scalar.select (if x = a then 1#1 else 0#1) (f x) (0 : EReal) = if x = a then f x else 0 := by
    by_cases hx : x = a
    · rw [if_pos hx, if_pos hx]; rfl
    · rw [if_neg hx, if_neg hx]; rfl
  simp only [h, Finset.sum_ite_eq', Finset.sum_ite_eq, Finset.mem_univ, if_true]

theorem sel_at (r : Fin 8) (k : Fin 128) : (k0_pay92 (F := Ideal)) (ix2 r k) = if k.val / 16 = r.val then 1 else 0 := by
  pointwise [k0_pay92]
  rw [cond_at r k]
  by_cases hk : k.val / 16 = r.val
  · rw [if_pos hk, if_pos hk]; rfl
  · rw [if_neg hk, if_neg hk]; rfl

/-! ## The recurrence -/

theorem step_at (p : Vec Ideal S1x96 .f32) (dl u : Vec Ideal S1x2048 .f32) (A S : Vec Ideal S16x2048 .f32) (n : Fin 16) (d : Fin 2048) :
    k0_pay3 (F := Ideal) mB dl u p A S (ix2 n d)
      = Ideal.exp (A (ix2 n d) * dl (ix2 0 d)) * S (ix2 n d) + u (ix2 0 d) * p (ix2 0 ⟨64 + ↑n, by omega⟩) := by
  have h := mB_at
  generalize mB = M at h ⊢
  pointwise [k0_pay3, k0_pay2]
  simp only [h, pick]

theorem prod_at (p : Vec Ideal S1x96 .f32) (dl u : Vec Ideal S1x2048 .f32) (A S : Vec Ideal S16x2048 .f32) (n : Fin 16) (d : Fin 2048) :
    k0_pay5 (F := Ideal) mB mC dl u p A S (ix3 0 n d)
      = k0_pay3 (F := Ideal) mB dl u p A S (ix2 n d) * p (ix2 0 ⟨80 + ↑n, by omega⟩) := by
  have h := mC_at
  unfold k0_pay5
  generalize k0_pay3 (F := Ideal) mB dl u p A S = Y
  generalize mC = M at h ⊢
  pointwise [k0_pay2]
  simp only [h, pick]

theorem pay4_at (p : Vec Ideal S1x96 .f32) (dl u : Vec Ideal S1x2048 .f32) (A S : Vec Ideal S16x2048 .f32) (n : Fin 16) (d : Fin 2048) :
    k0_pay4 (F := Ideal) mB dl u p A S (ix2 n d) = k0_pay3 (F := Ideal) mB dl u p A S (ix2 n d) := by
  unfold k0_pay4
  generalize k0_pay3 (F := Ideal) mB dl u p A S = Y
  pointwise []

section
variable (D U : Vec Ideal S256x2048 .f32) (B : Vec Ideal S256x96 .f32) (A S0 : Vec Ideal S16x2048 .f32)
  (hD : ∀ r d, D (ix2 r d) = DL P b (lq q r) d) (hU : ∀ r d, U (ix2 r d) = DL P b (lq q r) d * XC P b (lq q r) d)
  (hB : ∀ r k, B (ix2 r k) = DB P b (lq q r) k) (hA : ∀ n d, A (ix2 n d) = AA P d n)
  (hS : ∀ n d, S0 (ix2 n d) = SS P b (256 * q.val) d n)
include hD hU hB hA

theorem next_at (t : ℕ) (ht : t < 256) (S : Vec Ideal S16x2048 .f32) (n : Fin 16) (d : Fin 2048)
    (h : S (ix2 n d) = SS P b (256 * q.val + t) d n) :
    k0_pay3 (F := Ideal) mB (row D t) (row U t) (rowP B t) A S (ix2 n d) = SS P b (256 * q.val + t + 1) d n := by
  have e : (⟨t % 256, Nat.mod_lt _ (by norm_num)⟩ : Fin 256) = ⟨t, ht⟩ := Fin.ext (Nat.mod_eq_of_lt ht)
  have eD : row (F := Ideal) D t (ix2 0 d) = DL P b (lq q ⟨t, ht⟩) d := (congrArg (fun r => D (ix2 r d)) e).trans (hD _ d)
  have eU : row (F := Ideal) U t (ix2 0 d) = DL P b (lq q ⟨t, ht⟩) d * XC P b (lq q ⟨t, ht⟩) d := (congrArg (fun r => U (ix2 r d)) e).trans (hU _ d)
  have eB (k) : rowP (F := Ideal) B t (ix2 0 k) = DB P b (lq q ⟨t, ht⟩) k := (congrArg (fun r => B (ix2 r k)) e).trans (hB _ k)
  rw [step_at, eD, eU, eB, h, hA, mul_comm (AA P d n)]
  refine Eq.symm ?_
  show (if h : 256 * q.val + t < 1024 then _ else _) = _
  rw [dif_pos (by omega)]
  rfl

include hS

theorem st_at : ∀ t : ℕ, t ≤ 256 → ∀ (n : Fin 16) (d : Fin 2048), ST mB D U B A S0 t (ix2 n d) = SS P b (256 * q.val + t) d n
  | 0, _, n, d => hS n d
  | t + 1, ht, n, d => (pay4_at _ _ _ _ _ n d).trans
      (next_at P b q D U B A hD hU hB hA t ht _ n d (st_at t (by omega) n d))

theorem qt_at (t : ℕ) (ht : t < 256) (n : Fin 16) (d : Fin 2048) :
    QT mB mC D U B A S0 t (ix3 0 n d) = SS P b (256 * q.val + t + 1) d n * DB P b (lq q ⟨t, ht⟩) ⟨80 + ↑n, by omega⟩ := by
  have e : (⟨t % 256, Nat.mod_lt _ (by norm_num)⟩ : Fin 256) = ⟨t, ht⟩ := Fin.ext (Nat.mod_eq_of_lt ht)
  have eB (k) : rowP (F := Ideal) B t (ix2 0 k) = DB P b (lq q ⟨t, ht⟩) k := (congrArg (fun r => B (ix2 r k)) e).trans (hB _ k)
  unfold QT
  rw [prod_at, eB, next_at P b q D U B A hD hU hB hA t ht _ n d (st_at P b q D U B A S0 hD hU hB hA hS t ht.le n d)]

omit hD hU hB hA hS in
/-- The selector picks one group of sixteen. -/
theorem sel_sum (f : ℕ → Fin 16 → EReal) (a : Fin 8) :
    ∑ x : Fin 128, (if x.val / 16 = a.val then (1 : EReal) else 0) * f (x.val / 16) ⟨x.val % 16, Nat.mod_lt _ (by norm_num)⟩ = ∑ n, f a.val n := by
  rw [← (finProdFinEquiv (m := 8) (n := 16)).sum_comp, Fintype.sum_prod_type]
  rw [Finset.sum_eq_single a]
  · refine Finset.sum_congr rfl fun n _ => ?_
    have h1 : (finProdFinEquiv (a, n)).val / 16 = a.val := by show (n.val + 16 * a.val) / 16 = _; omega
    have h2 : (⟨(finProdFinEquiv (a, n)).val % 16, Nat.mod_lt _ (by norm_num)⟩ : Fin 16) = n :=
      Fin.ext (by show (n.val + 16 * a.val) % 16 = _; omega)
    rw [h2, h1, if_pos rfl, one_mul]
  · intro a' _ ha
    refine Finset.sum_eq_zero fun n _ => ?_
    have h1 : (finProdFinEquiv (a', n)).val / 16 = a'.val := by show (n.val + 16 * a'.val) / 16 = _; omega
    rw [h1, if_neg (fun h => ha (Fin.ext h)), zero_mul]
  · exact fun h => absurd (Finset.mem_univ _) h

omit hD hU hB hA hS in
theorem sum_at (Q : Vec Ideal S1x128x2048 .bf16) (a : Fin 8) (d : Fin 2048) :
    k0_pay35 (F := Ideal) k0_pay92 Q (ix2 a d) = ∑ x : Fin 128, (if x.val / 16 = a.val then (1 : EReal) else 0) * Q (ix3 0 x d) := by
  have h := sel_at
  generalize k0_pay92 (F := Ideal) = M at h ⊢
  pointwise [k0_pay35]
  simp only [h]

theorem yw_at (r : Fin 256) (d : Fin 2048) : YW mB mC D U B A S0 (ix2 r d) = YY P b (lq q r) d := by
  show k0_pay35 (F := Ideal) k0_pay92 (stack fun u => QT mB mC D U B A S0 (8 * (r.val / 8) + u)) (ix2 ⟨r.val % 8, _⟩ d) = _
  rw [sum_at]
  refine (sel_sum (fun u n => QT mB mC D U B A S0 (8 * (r.val / 8) + u) (ix3 0 n d)) ⟨r.val % 8, _⟩).trans ?_
  unfold YY
  refine Finset.sum_congr rfl fun n _ => ?_
  have e : 8 * (r.val / 8) + r.val % 8 = r.val := by omega
  show QT mB mC D U B A S0 (8 * (r.val / 8) + r.val % 8) (ix3 0 n d) = _
  rw [e]
  exact qt_at P b q D U B A S0 hD hU hB hA hS r.val r.isLt n d

end

theorem gate_at (Z Y XCv : Vec Ideal S256x2048 .f32) (dk : Vec Ideal S1x2048 .f32) (r : Fin 256) (d : Fin 2048)
    (hZ : Z (ix2 r d) = ZZ P b (lq q r) d) (hY : Y (ix2 r d) = YY P b (lq q r) d) (hc : XCv (ix2 r d) = XC P b (lq q r) d) (hk : dk (ix2 0 d) = P.a11 1 d) :
    k0_pay1 (F := Ideal) Z Y dk XCv (ix2 r d) = OUT P b (lq q r) d := by
  pointwise [k0_pay1]
  rw [hZ, hY, hc, hk]
  rfl

theorem a_at (alog : Vec Ideal S16x2048 .f32) (n : Fin 16) (d : Fin 2048) (h : alog (ix2 n d) = P.a10 1 d n) :
    k0_pay77 (F := Ideal) alog (ix2 n d) = AA P d n := by
  pointwise [k0_pay77]
  rw [h]
  exact zero_sub _

theorem s0_at (n : Fin 16) (d : Fin 2048) : k0_pay76 (F := Ideal) (ix2 n d) = SS P b 0 d n := by
  pointwise [k0_pay76]
  rfl

end Cert.MidIdeal.KVal

end
-- ==== Proof.Run.lean ====
module

public import proofs.«01_k».proof.Proof.Body
public import proofs.«01_k».proof.Proof.Gen.MidIdeal.Skeleton
public import proofs.«01_k».proof.Proof.Gen.MidIdeal.Points
public import proofs.«01_k».proof.Proof.Gen.MidIdeal.Launch
public import Idealize.ShloMosaic.Lib.Exec
public import Idealize.ShloMosaic.Lib.Pipeline.FrameBody
public import Idealize.ShloMosaic.Lib.Claim
public import Idealize.ShloMosaic.Lib.Ring
public import Idealize.ShloMosaic.Lib.WordCmp
public import Idealize.ShloMosaic.Lib.Tactic
public import Idealize.ShloMosaic.Lib.VecWindow
public import Idealize.ShloMosaic.Lib.Pipeline.ValueKit

@[expose] public section

set_option maxRecDepth 16384
set_option maxHeartbeats 1000000

noncomputable section

namespace Cert.MidIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MidIdeal Cert.MidIdeal.Gen
open Idealize.ShloMosaic.Rounds
open Idealize.ShloMosaic.Pipeline (Dat Cfg Window BodyObligation cellOf)
open Cert.MidIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's point `n`. -/
def tN (n : ℕ) : Fin cfg0.N := ⟨n % 16, Nat.mod_lt _ (by norm_num)⟩

theorem tN_val (t : Fin cfg0.N) : tN t.val = t := Fin.ext (Nat.mod_eq_of_lt t.isLt)

/-- The rows block `n` convolves. -/
def xiT (c : Dev nD) (n : ℕ) : Vec F S256x2048 .f32 := xiB (iblk m c 0 (tN n)) (iblk m c 1 (tN n)) (iblk m c 2 (tN n)) (iblk m c 3 (tN n)) (iblk m c 4 (tN n))

/-- The gate of block `n`. -/
def zsT (c : Dev nD) (n : ℕ) : Vec F S256x2048 .f32 := zsB (iblk m c 0 (tN n)) (iblk m c 1 (tN n)) (iblk m c 2 (tN n)) (iblk m c 3 (tN n)) (iblk m c 4 (tN n))

/-- The rows carried into block `n`. -/
def cIn (c : Dev nD) : ℕ → Vec F S8x2048 .f32
  | 0 => k0_pay75
  | n + 1 => if (n + 1) % 4 = 0 then k0_pay75 else cvB (xiT m c n)

/-- The decay at block `n`. -/
def aT (c : Dev nD) : ℕ → Vec F S16x2048 .f32
  | 0 => k0_pay77 (iblk m c 10 (tN 0))
  | n + 1 => if (n + 1) % 4 = 0 then k0_pay77 (iblk m c 10 (tN (n + 1))) else aT c n

/-- The state block `n` finds. -/
def sIn (c : Dev nD) : ℕ → Vec F S16x2048 .f32
  | 0 => k0_pay76
  | n + 1 => if (n + 1) % 4 = 0 then k0_pay76 else stB (cIn m c n) (xiT m c n) (iblk m c 5 (tN n)) (iblk m c 6 (tN n)) (iblk m c 7 (tN n)) (iblk m c 8 (tN n)) (iblk m c 9 (tN n)) (sIn c n) (aT m c n)

/-- The state block `n` leaves. -/
def sOut (c : Dev nD) (n : ℕ) : Vec F S16x2048 .f32 := stB (cIn m c n) (xiT m c n) (iblk m c 5 (tN n)) (iblk m c 6 (tN n)) (iblk m c 7 (tN n)) (iblk m c 8 (tN n)) (iblk m c 9 (tN n)) (sIn m c n) (aT m c n)

/-- The residual rows of block `n`. -/
def x1T (c : Dev nD) (n : ℕ) : Vec F S256x1024 .f32 := k0_pay73 (iblk m c 0 (tN n)) (iblk m c 1 (tN n)) (iblk m c 2 (tN n))

/-- The result of block `n`. -/
def yT (c : Dev nD) (n : ℕ) : Vec F S256x2048 .bf16 :=
  yB (cIn m c n) (xiT m c n) (zsT m c n) (iblk m c 5 (tN n)) (iblk m c 6 (tN n)) (iblk m c 7 (tN n)) (iblk m c 8 (tN n)) (iblk m c 9 (tN n)) (iblk m c 11 (tN n)) (sIn m c n) (aT m c n)

theorem cIn_first (c : Dev nD) (n : ℕ) (h : n % 4 = 0) : cIn m c n = k0_pay75 := by
  cases n with
  | zero => rfl
  | succ n => exact if_pos h

theorem sIn_first (c : Dev nD) (n : ℕ) (h : n % 4 = 0) : sIn m c n = k0_pay76 := by
  cases n with
  | zero => rfl
  | succ n => exact if_pos h

theorem aT_first (c : Dev nD) (n : ℕ) (h : n % 4 = 0) : aT m c n = k0_pay77 (iblk m c 10 (tN n)) := by
  cases n with
  | zero => rfl
  | succ n => exact if_pos h

theorem cIn_succ (c : Dev nD) (n : ℕ) (h : (n + 1) % 4 ≠ 0) : cIn m c (n + 1) = cvB (xiT m c n) := if_neg h
theorem sIn_succ (c : Dev nD) (n : ℕ) (h : (n + 1) % 4 ≠ 0) : sIn m c (n + 1) = sOut m c n := if_neg h
theorem aT_succ (c : Dev nD) (n : ℕ) (h : (n + 1) % 4 ≠ 0) : aT m c (n + 1) = aT m c n := if_neg h

/-- A scratch buffer at any contents. -/
abbrev anyS {sh : Shape} {e : EltTy} (c : Dev nD) (r : Memref sig .tc .vmem sh e) : sProp 𝕄 := iprop(∃ d, owns (c : Thread nD τ) r fullShare d)

/-- Before block `n`: inside a sequence the three carried scratch buffers hold what the block before left. -/
def Inv (c : Dev nD) (n : ℕ) : sProp 𝕄 :=
  iprop(anyS (F := F) c (Memref.whole cc0_scratch0) ∗ anyS (F := F) c (Memref.whole cc0_scratch1) ∗ anyS (F := F) c (Memref.whole cc0_scratch2) ∗ anyS (F := F) c (Memref.whole cc0_scratch3) ∗ anyS (F := F) c (Memref.whole cc0_scratch4) ∗ anyS (F := F) c (Memref.whole cc0_scratch8) ∗ anyS (F := F) c (Memref.whole cc0_scratch9) ∗ anyS (F := F) c (Memref.whole cc0_scratch10)
    ∗ (∃ S C A, owns (c : Thread nD τ) (Memref.whole cc0_scratch5) fullShare S ∗ owns (c : Thread nD τ) (Memref.whole cc0_scratch6) fullShare C ∗ owns (c : Thread nD τ) (Memref.whole cc0_scratch7) fullShare A
        ∗ ⌜n % 4 ≠ 0 → S = sIn m c n ∧ C = cIn m c n ∧ A = aT m c n⌝)
    ∗ ∃ r, prngReg c r)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => x1T m c t.val
    | ⟨13, _⟩ => yT m c t.val
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = x1T m c t.val := by dsimp only [dats]
theorem after0_13 (c : Dev nD) (t : Fin cfg0.N) : (dats m 0 c).after 13 t = yT m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The kernel's branch is taken at the first block of each sequence. -/
theorem hcond : ∀ t : Fin grid0.N, (Scalar.cmpi .ne (Scalar.extui (Scalar.cmpi .eq (BitVec.ofNat 32 ((grid0.coords t) 1).val) 0#32)) 0#32 : BitVec 1) = 1#1 ↔ t.val % 4 = 0 := by
  decide +kernel

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = Inv m c (t.val + 1) from rfl, show (dats m 0 c).Φ t.castSucc = Inv m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  unfold Inv
  iintro ⟨⟨G0, G1, G2, G3, G4, G8, G9, G10, ⟨%S, %C, %A, G5, G6, G7, %hI⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  by_cases h4 : t.val % 4 = 0
  · iapply (Body.first c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)  ((hcond t).mpr h4) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [G0]; · iexact G0
    isplitl [G1]; · iexact G1
    isplitl [G2]; · iexact G2
    isplitl [G3]; · iexact G3
    isplitl [G4]; · iexact G4
    isplitl [G5]; · iexists _; iexact G5
    isplitl [G6]; · iexists _; iexact G6
    isplitl [G7]; · iexists _; iexact G7
    isplitl [G8]; · iexact G8
    isplitl [G9]; · iexact G9
    isplitl [G10]; · iexact G10
    iintro ⟨H0, H1, H2, H3, H4, H5, H6, H7, H8, H9, H10, H11, H12, H13, G0, G1, G2, G3, G4, G5, G6, G7, G8, G9, G10⟩
    isplitl [G0 G1 G2 G3 G4 G5 G6 G7 G8 G9 G10 Hr]
    · isplitl [G0]; · iexact G0
      isplitl [G1]; · iexact G1
      isplitl [G2]; · iexact G2
      isplitl [G3]; · iexact G3
      isplitl [G4]; · iexact G4
      isplitl [G8]; · iexact G8
      isplitl [G9]; · iexact G9
      isplitl [G10]; · iexact G10
      isplitl [G5 G6 G7]
      · iexists _, _, _
        isplitl [G5]; · iexact G5
        isplitl [G6]; · iexact G6
        isplitl [G7]; · iexact G7
        ipureintro
        intro hn
        rw [sIn_succ m c _ hn, cIn_succ m c _ hn, aT_succ m c _ hn]
        unfold sOut xiT
        rw [sIn_first m c _ h4, cIn_first m c _ h4, aT_first m c _ h4, tN_val]
        exact ⟨rfl, rfl, rfl⟩
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold x1T; rw [tN_val]; iexact H12
    unfold yT xiT zsT
    rw [sIn_first m c _ h4, cIn_first m c _ h4, aT_first m c _ h4, tN_val]
    iexact H13
  · iapply (Body.next c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) S C A (fun h => h4 ((hcond t).mp h)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    iintro ⟨H0, H1, H2, H3, H4, H5, H6, H7, H8, H9, H10, H11, H12, H13, G0, G1, G2, G3, G4, G5, G6, G7, G8, G9, G10⟩
    isplitl [G0 G1 G2 G3 G4 G5 G6 G7 G8 G9 G10 Hr]
    · isplitl [G0]; · iexact G0
      isplitl [G1]; · iexact G1
      isplitl [G2]; · iexact G2
      isplitl [G3]; · iexact G3
      isplitl [G4]; · iexact G4
      isplitl [G8]; · iexact G8
      isplitl [G9]; · iexact G9
      isplitl [G10]; · iexact G10
      isplitl [G5 G6 G7]
      · iexists _, _, _
        isplitl [G5]; · iexact G5
        isplitl [G6]; · iexact G6
        isplitl [G7]; · iexact G7
        ipureintro
        intro hn
        rw [sIn_succ m c _ hn, cIn_succ m c _ hn, aT_succ m c _ hn]
        unfold sOut xiT
        obtain ⟨eS, eC, eA⟩ := hI h4
        rw [← eS, ← eC, ← eA, tN_val]
        exact ⟨rfl, rfl, rfl⟩
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold x1T; rw [tN_val]; iexact H12
    unfold yT xiT zsT
    obtain ⟨eS, eC, eA⟩ := hI h4
    rw [← eS, ← eC, ← eA, tN_val]
    iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 from rfl]
  unfold Pipeline.ΦA Inv
  rw [scopedRest0_eq]
  simp only [anyS, owns_whole]
  iintro ⟨⟨⟨%f0, G0⟩, ⟨%f1, G1⟩, ⟨%f2, G2⟩, ⟨%f3, G3⟩, ⟨%f4, G4⟩, ⟨%f5, G5⟩, ⟨%f6, G6⟩, ⟨%f7, G7⟩, ⟨%f8, G8⟩, ⟨%f9, G9⟩, ⟨%f10, G10⟩⟩, Hr⟩
  isplitl [G0]; · iexists f0; iexact G0
  isplitl [G1]; · iexists f1; iexact G1
  isplitl [G2]; · iexists f2; iexact G2
  isplitl [G3]; · iexists f3; iexact G3
  isplitl [G4]; · iexists f4; iexact G4
  isplitl [G8]; · iexists f8; iexact G8
  isplitl [G9]; · iexists f9; iexact G9
  isplitl [G10]; · iexists f10; iexact G10
  isplitl [G5 G6 G7]
  · iexists f5, f6, f7
    isplitl [G5]; · iexact G5
    isplitl [G6]; · iexact G6
    isplitl [G7]; · iexact G7
    ipureintro
    intro h; exact absurd rfl h
  iexact Hr

theorem hout (c : Dev nD) : (dats m 0 c).Φ (Fin.last cfg0.N) ⊢ Pipeline.ΦA spec0 c := by
  rw [show (dats m 0 c).Φ (Fin.last cfg0.N) = Inv m c 16 from rfl]
  unfold Pipeline.ΦA Inv
  rw [scopedRest0_eq]
  simp only [anyS, owns_whole]
  iintro ⟨⟨%f0, G0⟩, ⟨%f1, G1⟩, ⟨%f2, G2⟩, ⟨%f3, G3⟩, ⟨%f4, G4⟩, ⟨%f8, G8⟩, ⟨%f9, G9⟩, ⟨%f10, G10⟩, ⟨%f5, %f6, %f7, G5, G6, G7, -⟩, Hr⟩
  isplitr [Hr]
  · isplitl [G0]; · iexists f0; iexact G0
    isplitl [G1]; · iexists f1; iexact G1
    isplitl [G2]; · iexists f2; iexact G2
    isplitl [G3]; · iexists f3; iexact G3
    isplitl [G4]; · iexists f4; iexact G4
    isplitl [G5]; · iexists f5; iexact G5
    isplitl [G6]; · iexists f6; iexact G6
    isplitl [G7]; · iexists f7; iexact G7
    isplitl [G8]; · iexists f8; iexact G8
    isplitl [G9]; · iexists f9; iexact G9
    iexists f10; iexact G10
  iexact Hr

set_option backward.isDefEq.respectTransparency.types false in
set_option maxHeartbeats 800000 in
/-- The whole call, to its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter ends at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.MidIdeal.Run
-- ==== Proof.KBlk.lean ====
/- The blocks the middle kernel's windows hold, as elements of the arguments. -/
module

public import proofs.«01_k».proof.Proof.Spec
public import proofs.«01_k».proof.Proof.Run

@[expose] public section

set_option maxRecDepth 16384

noncomputable section

open Idealize.ShloMosaic Idealize.ShloMosaic.TcCoe Idealize.SL.Sem
open Idealize.ShloMosaic.Pipeline (Dat)

namespace Cert.MidIdeal.KRun

open Cert.MidIdeal Cert.MidIdeal.Gen Cert.MidIdeal.Run Cert.MidSpec

variable (m : (ℓ : Loc nD τ sig) → Buf (Elt Ideal) ℓ)

/-- The arguments a memory holds on a device. -/
def argsK (c : Dev nD) : Args where
  a0 r d := m ((c : Thread nD τ).loc main_arg0) (ix2 r d)
  a1 r d := m ((c : Thread nD τ).loc main_arg1) (ix2 r d)
  a2 i k d := m ((c : Thread nD τ).loc main_arg2) (ix3 i k d)
  a3 i d := m ((c : Thread nD τ).loc main_arg3) (ix2 i d)
  a4 i k d := m ((c : Thread nD τ).loc main_arg4) (ix3 i k d)
  a5 i k d := m ((c : Thread nD τ).loc main_arg5) (ix3 i k d)
  a6 i d := m ((c : Thread nD τ).loc main_arg6) (ix2 i d)
  a7 i k d := m ((c : Thread nD τ).loc main_arg7) (ix3 i k d)
  a8 i k d := m ((c : Thread nD τ).loc main_arg8) (ix3 i k d)
  a9 i d := m ((c : Thread nD τ).loc main_arg9) (ix2 i d)
  a10 i k d := m ((c : Thread nD τ).loc main_arg10) (ix3 i k d)
  a11 i d := m ((c : Thread nD τ).loc main_arg11) (ix2 i d)

/-- Where each window stands at a grid point. -/
theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![t.val, 0] ∧ win0_13.index t = ![t.val, 0] :=
  (by decide +kernel : ∀ t : Fin grid0.N, _)

theorem b0 (c : Dev nD) (t : Fin cfg0.N) (r : Fin 256) (d : Fin 1024) :
    iblk m c 0 t (ix2 r d) = m ((c : Thread nD τ).loc main_arg0) (ix2 ⟨256 * t.val + r.val, by have := t.isLt; have : cfg0.N = 16 := rfl; omega⟩ d) := by
  blk_point [iblk, idx t]

theorem b1 (c : Dev nD) (t : Fin cfg0.N) (r : Fin 256) (d : Fin 2048) :
    iblk m c 1 t (ix2 r d) = m ((c : Thread nD τ).loc main_arg1) (ix2 ⟨256 * t.val + r.val, by have := t.isLt; have : cfg0.N = 16 := rfl; omega⟩ d) := by
  blk_point [iblk, idx t]

theorem b3 (c : Dev nD) (t : Fin cfg0.N) (d : Fin 1024) :
    iblk m c 3 t (ix2 0 d) = m ((c : Thread nD τ).loc main_arg3) (ix2 1 d) := by
  blk_point [iblk, idx t]

theorem b4 (c : Dev nD) (t : Fin cfg0.N) (r : Fin 1024) (d : Fin 4096) :
    iblk m c 4 t (ix2 r d) = m ((c : Thread nD τ).loc main_arg4) (ix3 1 r d) := by
  blk_point [iblk, idx t]

theorem b5 (c : Dev nD) (t : Fin cfg0.N) (r : Fin 4) (d : Fin 2048) :
    iblk m c 5 t (ix2 r d) = m ((c : Thread nD τ).loc main_arg5) (ix3 1 d r) := by
  blk_point [iblk, idx t]

theorem b6 (c : Dev nD) (t : Fin cfg0.N) (d : Fin 2048) :
    iblk m c 6 t (ix2 0 d) = m ((c : Thread nD τ).loc main_arg6) (ix2 1 d) := by
  blk_point [iblk, idx t]

theorem b7 (c : Dev nD) (t : Fin cfg0.N) (r : Fin 2048) (d : Fin 96) :
    iblk m c 7 t (ix2 r d) = m ((c : Thread nD τ).loc main_arg7) (ix3 1 r d) := by
  blk_point [iblk, idx t]

theorem b8 (c : Dev nD) (t : Fin cfg0.N) (r : Fin 64) (d : Fin 2048) :
    iblk m c 8 t (ix2 r d) = m ((c : Thread nD τ).loc main_arg8) (ix3 1 r d) := by
  blk_point [iblk, idx t]

theorem b9 (c : Dev nD) (t : Fin cfg0.N) (d : Fin 2048) :
    iblk m c 9 t (ix2 0 d) = m ((c : Thread nD τ).loc main_arg9) (ix2 1 d) := by
  blk_point [iblk, idx t]

theorem b10 (c : Dev nD) (t : Fin cfg0.N) (r : Fin 16) (d : Fin 2048) :
    iblk m c 10 t (ix2 r d) = m ((c : Thread nD τ).loc main_arg10) (ix3 1 d r) := by
  blk_point [iblk, idx t]

theorem b11 (c : Dev nD) (t : Fin cfg0.N) (d : Fin 2048) :
    iblk m c 11 t (ix2 0 d) = m ((c : Thread nD τ).loc main_arg11) (ix2 1 d) := by
  blk_point [iblk, idx t]

theorem b2 (c : Dev nD) (t : Fin cfg0.N) (r : Fin 2048) (d : Fin 1024) :
    iblk m c 2 t (ix2 r d) = m ((c : Thread nD τ).loc main_arg2) (ix3 0 r d) := by
  blk_point [iblk, idx t]

end Cert.MidIdeal.KRun

end
-- ==== Proof.KRun.lean ====
/- The middle kernel's result arrays, element by element. -/
module

public import proofs.«01_k».proof.Proof.KVal
public import proofs.«01_k».proof.Proof.KBlk

@[expose] public section

set_option maxRecDepth 16384

noncomputable section

open Idealize.ShloMosaic Idealize.ShloMosaic.TcCoe Idealize.SL.Sem
open Idealize.ShloMosaic.Pipeline (Dat)

namespace Cert.MidIdeal.KRun

open Cert.MidIdeal Cert.MidIdeal.Gen Cert.MidIdeal.Scan Cert.MidIdeal.Body Cert.MidIdeal.Run Cert.MidIdeal.KVal Cert.MidSpec

variable (m : (ℓ : Loc nD τ sig) → Buf (Elt Ideal) ℓ)

/-- The batch of a grid point. -/
def bN (n : ℕ) : Fin 4 := ⟨n / 4 % 4, Nat.mod_lt _ (by norm_num)⟩

/-- The block of a grid point inside its batch. -/
def qN (n : ℕ) : Fin 4 := ⟨n % 4, Nat.mod_lt _ (by norm_num)⟩

theorem row_eq (n : ℕ) (hn : n < 16) (r : Fin 256) (h) : (⟨256 * (tN n).val + r.val, h⟩ : Fin 4096) = Cert.MidSpec.rw (bN n) (lq (qN n) r) :=
  Fin.ext (by
    show 256 * (n % 16) + r.val = n / 4 % 4 * 1024 + (256 * (n % 4) + r.val)
    omega)

section
variable (c : Dev nD) (n : ℕ) (hn : n < 16)
include hn

theorem p0 (r d) : iblk m c 0 (tN n) (ix2 r d) = (argsK m c).a0 (Cert.MidSpec.rw (bN n) (lq (qN n) r)) d :=
  (b0 m c (tN n) r d).trans (congrArg (fun x => m ((c : Thread nD τ).loc main_arg0) (ix2 x d)) (row_eq n hn r _))

theorem p1 (r d) : iblk m c 1 (tN n) (ix2 r d) = (argsK m c).a1 (Cert.MidSpec.rw (bN n) (lq (qN n) r)) d :=
  (b1 m c (tN n) r d).trans (congrArg (fun x => m ((c : Thread nD τ).loc main_arg1) (ix2 x d)) (row_eq n hn r _))

theorem x1_n (r : Fin 256) (d : Fin 1024) : x1T m c n (ix2 r d) = X1 (argsK m c) (Cert.MidSpec.rw (bN n) (lq (qN n) r)) d :=
  x1_at (argsK m c) (bN n) (qN n) _ _ _ (p0 m c n hn) (p1 m c n hn) (b2 m c (tN n)) r d

theorem xi_n (r : Fin 256) (d : Fin 2048) : xiT m c n (ix2 r d) = XI (argsK m c) (bN n) (lq (qN n) r) d :=
  xi_at (argsK m c) (bN n) (qN n) _ _ _ _ _ (p0 m c n hn) (p1 m c n hn) (b2 m c (tN n)) (b3 m c (tN n)) (b4 m c (tN n)) r d

theorem zs_n (r : Fin 256) (d : Fin 2048) : zsT m c n (ix2 r d) = ZZ (argsK m c) (bN n) (lq (qN n) r) d :=
  zs_at (argsK m c) (bN n) (qN n) _ _ _ _ _ (p0 m c n hn) (p1 m c n hn) (b2 m c (tN n)) (b3 m c (tN n)) (b4 m c (tN n)) r d
end

theorem bN_succ (n : ℕ) (h : (n + 1) % 4 ≠ 0) : bN (n + 1) = bN n := Fin.ext (by show (n + 1) / 4 % 4 = n / 4 % 4; omega)
theorem qN_succ (n : ℕ) (h : (n + 1) % 4 ≠ 0) : (qN (n + 1)).val = (qN n).val + 1 := by show (n + 1) % 4 = n % 4 + 1; omega
theorem qN_first (n : ℕ) (h : n % 4 = 0) : qN n = 0 := Fin.ext h

theorem c_n (c : Dev nD) (n : ℕ) (hn : n < 16) (j : Fin 8) (d : Fin 2048) : cIn m c n (ix2 j d) = CIN (argsK m c) (bN n) (qN n) j d := by
  by_cases h : n % 4 = 0
  · rw [cIn_first m c n h, qN_first n h]
    exact zero_at _ _ j d
  · obtain ⟨k, rfl⟩ : ∃ k, n = k + 1 := ⟨n - 1, by omega⟩
    rw [cIn_succ m c k h, bN_succ k h]
    exact tail_at (argsK m c) (bN k) (qN k) _ (xi_n m c k (by omega)) _ (qN_succ k h) j d

theorem a_n (c : Dev nD) : ∀ n < 16, ∀ (i : Fin 16) (d : Fin 2048), aT m c n (ix2 i d) = AA (argsK m c) d i
  | 0, _, i, d => a_at _ _ i d (b10 m c _ i d)
  | n + 1, hn, i, d => by
    by_cases h : (n + 1) % 4 = 0
    · rw [aT_first m c _ h]; exact a_at _ _ i d (b10 m c _ i d)
    · rw [aT_succ m c n h]; exact a_n c n (by omega) i d

section
variable (c : Dev nD) (hs : ∀ b l d, DLN (argsK m c) b l d ≤ Ideal.ofBits .f32 0x41A00000#32)
include hs

theorem dl_n (n : ℕ) (hn : n < 16) (r : Fin 256) (d : Fin 2048) :
    dlB (cIn m c n) (xiT m c n) (iblk m c 5 (tN n)) (iblk m c 6 (tN n)) (iblk m c 7 (tN n)) (iblk m c 8 (tN n)) (iblk m c 9 (tN n)) (ix2 r d) = DL (argsK m c) (bN n) (lq (qN n) r) d :=
  dl_at (argsK m c) (bN n) (qN n) _ _ (xi_n m c n hn) (c_n m c n hn) _ _ _ _ _
  (b5 m c (tN n)) (b6 m c (tN n)) (b7 m c (tN n)) (b8 m c (tN n)) (b9 m c (tN n)) hs r d

theorem u_n (n : ℕ) (hn : n < 16) (r : Fin 256) (d : Fin 2048) :
    uB (cIn m c n) (xiT m c n) (iblk m c 5 (tN n)) (iblk m c 6 (tN n)) (iblk m c 7 (tN n)) (iblk m c 8 (tN n)) (iblk m c 9 (tN n)) (ix2 r d) = DL (argsK m c) (bN n) (lq (qN n) r) d * XC (argsK m c) (bN n) (lq (qN n) r) d :=
  u_at (argsK m c) (bN n) (qN n) _ _ (xi_n m c n hn) (c_n m c n hn) _ _ _ _ _
  (b5 m c (tN n)) (b6 m c (tN n)) (b7 m c (tN n)) (b8 m c (tN n)) (b9 m c (tN n)) hs r d

omit hs in
theorem db_n (n : ℕ) (hn : n < 16) (r : Fin 256) (d : Fin 96) :
    dbB (cIn m c n) (xiT m c n) (iblk m c 5 (tN n)) (iblk m c 6 (tN n)) (iblk m c 7 (tN n)) (ix2 r d) = DB (argsK m c) (bN n) (lq (qN n) r) d :=
  db_at (argsK m c) (bN n) (qN n) _ _ (xi_n m c n hn) (c_n m c n hn) _ _ _
  (b5 m c (tN n)) (b6 m c (tN n)) (b7 m c (tN n)) r d

omit hs in
theorem xc_n (n : ℕ) (hn : n < 16) (r : Fin 256) (d : Fin 2048) :
    xcB (cIn m c n) (xiT m c n) (iblk m c 5 (tN n)) (iblk m c 6 (tN n)) (ix2 r d) = XC (argsK m c) (bN n) (lq (qN n) r) d :=
  xc_at (argsK m c) (bN n) (qN n) _ _ (xi_n m c n hn) (c_n m c n hn) _ _
  (b5 m c (tN n)) (b6 m c (tN n)) r d

theorem s_n : ∀ n < 16, ∀ (i : Fin 16) (d : Fin 2048), sIn m c n (ix2 i d) = SS (argsK m c) (bN n) (256 * (qN n).val) d i
  | 0, _, i, d => s0_at (argsK m c) (bN 0) i d
  | n + 1, hn, i, d => by
    by_cases h : (n + 1) % 4 = 0
    · rw [sIn_first m c _ h, qN_first _ h]; exact s0_at (argsK m c) _ i d
    · rw [sIn_succ m c n h, bN_succ n h, qN_succ n h]
      exact st_at (argsK m c) (bN n) (qN n) _ _ _ _ _ (dl_n m c hs n (by omega)) (u_n m c hs n (by omega)) (db_n m c n (by omega))
        (a_n m c n (by omega)) (s_n n (by omega)) 256 le_rfl i d

theorem y_n (n : ℕ) (hn : n < 16) (r : Fin 256) (d : Fin 2048) : yT m c n (ix2 r d) = OUT (argsK m c) (bN n) (lq (qN n) r) d :=
  gate_at (argsK m c) (bN n) (qN n) _ _ _ _ r d (zs_n m c n hn r d)
    (yw_at (argsK m c) (bN n) (qN n) _ _ _ _ _ (dl_n m c hs n hn) (u_n m c hs n hn) (db_n m c n hn) (a_n m c n hn) (s_n m c hs n hn) r d)
    (xc_n m c n hn r d) (b11 m c _ d)
end

/-! ## Result arrays -/

/-- The residual stream's array. -/
def X1A (P : Args) : Vec Ideal S4096x1024 .f32 := fun y => X1 P (y 0) (y 1)

/-- The gated result's array. -/
def OUTA (P : Args) : Vec Ideal S4096x2048 .bf16 := fun y =>
  OUT P ⟨(y 0).val / 1024, by have : (y 0).val < 4096 := (y 0).isLt; omega⟩ ⟨(y 0).val % 1024, Nat.mod_lt _ (by norm_num)⟩ (y 1)

theorem emb12 (g : S4096x1024.Idx → EReal) (t : Fin cfg0.N) (r : Fin 256) (d : Fin 1024) :
    g (((View.whole main_v30_0).slice (win0_12.rect t)).emb (ix2 r d)) = g (ix2 ⟨256 * t.val + r.val, by have := t.isLt; have : cfg0.N = 16 := rfl; omega⟩ d) := by
  blk_ext! [idx t]

theorem final12 (c : Dev nD) : (dats m 0 c).arrAt 12 cfg0.N = X1A (argsK m c) := by
  refine (dats m 0 c).arrAt_eq_of_covers 12 _ (by decide +kernel) fun t _ y => ?_
  blk_simp
  rw [after0_12]; frame_out
  obtain ⟨r, d, rfl⟩ : ∃ (r : Fin 256) (d : Fin 1024), y = ix2 r d := ⟨y 0, y 1, eq_ix2 y⟩
  refine Eq.trans ?_ (emb12 (X1A (argsK m c)) t r d).symm
  refine (x1_n m c t.val t.isLt r d).trans ?_
  show _ = X1 (argsK m c) ⟨256 * t.val + r.val, _⟩ d
  refine congrArg (X1 (argsK m c) · d) (Fin.ext ?_)
  have : t.val < 16 := t.isLt
  show t.val / 4 % 4 * 1024 + (256 * (t.val % 4) + r.val) = 256 * t.val + r.val
  omega

theorem emb13 (g : S4096x2048.Idx → EReal) (t : Fin cfg0.N) (r : Fin 256) (d : Fin 2048) :
    g (((View.whole main_v30_1).slice (win0_13.rect t)).emb (ix2 r d)) = g (ix2 ⟨256 * t.val + r.val, by have := t.isLt; have : cfg0.N = 16 := rfl; omega⟩ d) := by
  blk_ext! [idx t]

theorem final13 (c : Dev nD) (hs : ∀ b l d, DLN (argsK m c) b l d ≤ Ideal.ofBits .f32 0x41A00000#32) :
    (dats m 0 c).arrAt 13 cfg0.N = OUTA (argsK m c) := by
  refine (dats m 0 c).arrAt_eq_of_covers 13 _ (by decide +kernel) fun t _ y => ?_
  blk_simp
  rw [after0_13]; frame_out
  obtain ⟨r, d, rfl⟩ : ∃ (r : Fin 256) (d : Fin 2048), y = ix2 r d := ⟨y 0, y 1, eq_ix2 y⟩
  refine Eq.trans ?_ (emb13 (OUTA (argsK m c)) t r d).symm
  refine (y_n m c hs t.val t.isLt r d).trans ?_
  have : t.val < 16 := t.isLt
  have e1 : bN t.val = (⟨(256 * t.val + r.val) / 1024, by omega⟩ : Fin 4) := Fin.ext (by
    show t.val / 4 % 4 = (256 * t.val + r.val) / 1024; omega)
  have e2 : lq (qN t.val) r = (⟨(256 * t.val + r.val) % 1024, Nat.mod_lt _ (by norm_num)⟩ : Fin 1024) := Fin.ext (by
    show 256 * (t.val % 4) + r.val = (256 * t.val + r.val) % 1024; omega)
  rw [e1, e2]
  rfl

end Cert.MidIdeal.KRun

end
-- ==== Proof.PreVal.lean ====
/- The precondition read at an index: every step-size input is at most twenty. -/
module

public import proofs.«01_k».proof.Pre_dt_small_m1
public import proofs.«01_k».proof.Proof.Gen.Pre_dt_small_m1
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.Pre_dt_small_m1.Val

open Cert.Pre_dt_small_m1 Cert.MidSpec

variable (A0 : FVec Ideal S4096x1024 .f32) (A1 : FVec Ideal S4096x2048 .bf16) (A2 : FVec Ideal S2x2048x1024 .f32) (A3 : FVec Ideal S2x1024 .f32) (A4 : FVec Ideal S2x1024x4096 .f32) (A5 : FVec Ideal S2x2048x4 .f32) (A6 : FVec Ideal S2x2048 .f32) (A7 : FVec Ideal S2x2048x96 .f32) (A8 : FVec Ideal S2x64x2048 .f32) (A9 : FVec Ideal S2x2048 .f32) (A10 : FVec Ideal S2x2048x16 .f32) (A11 : FVec Ideal S2x2048 .f32)

/-- The arguments as functions of their coordinates. -/
def argsP : Args where
  a0 i d := A0 (ix2 i d)
  a1 i d := A1 (ix2 i d)
  a2 i k d := A2 (ix3 i k d)
  a3 i d := A3 (ix2 i d)
  a4 i k d := A4 (ix3 i k d)
  a5 i k d := A5 (ix3 i k d)
  a6 i d := A6 (ix2 i d)
  a7 i k d := A7 (ix3 i k d)
  a8 i k d := A8 (ix3 i k d)
  a9 i d := A9 (ix2 i d)
  a10 i k d := A10 (ix3 i k d)
  a11 i d := A11 (ix2 i d)

theorem small [Facts] (h : fn (F := Ideal) A0 A1 A2 A3 A4 A5 A6 A7 A8 A9 A10 A11 = fun _ => 1#1) (b : Fin 4) (l : Fin 1024) (d : Fin 2048) :
    DLN (argsP A0 A1 A2 A3 A4 A5 A6 A7 A8 A9 A10 A11) b l d ≤ Ideal.ofBits .f32 0x41A00000#32 := by
  have e := congrFun h (ix3 b l d)
  have z : @FloatOps.sitofp Ideal _ FTy.f32 32 0#32 = 0 := by
    show (((0#32 : BitVec 32).toInt : ℝ) : EReal) = 0; simp
  pointwise [fn, fn_part1, fn_part2, fn_part3, fn_pad, fn_silu] at e
  simp only [z] at e
  by_contra hc
  refine absurd e (?_ : ¬BitVec.ofBool (decide (_ ≤ Ideal.ofBits .f32 0x41A00000#32)) = 1#1)
  have := decide_eq_false hc
  refine fun e' => ?_
  have e'' := e'.symm.trans (congrArg BitVec.ofBool this)
  exact absurd e'' (by decide)

end Cert.Pre_dt_small_m1.Val

end
-- ==== Proof.RefVal.lean ====
/- The reference read down to the shared functions, stage by stage. -/
module

public import proofs.«01_k».proof.Proof.Gen.RefMidIdeal.Run
public import Idealize.ShloMosaic.Lib.Pipeline.ValueKit
public import Idealize.ShloMosaic.Lib.StableHlo.ReadAt
public import proofs.«01_k».proof.Proof.Spec

@[expose] public section

set_option maxRecDepth 16384

noncomputable section

open Idealize.ShloMosaic Idealize.ShloMosaic.TcCoe Idealize.SL.Sem Idealize.ShloMosaic.StableHlo

namespace Cert.RefMidIdeal.Val

open Cert.RefMidIdeal Cert.RefMidIdeal.Gen Cert.RefMidIdeal.Value Cert.MidSpec

variable (V : Valuation τ sig (Elt Ideal))

/-- The arguments by their coordinates. -/
def argsOf : Args where
  a0 r d := V (Proc.devRef .tc main_arg0) (ix2 r d)
  a1 r d := V (Proc.devRef .tc main_arg1) (ix2 r d)
  a2 i x d := V (Proc.devRef .tc main_arg2) (ix3 i x d)
  a3 i d := V (Proc.devRef .tc main_arg3) (ix2 i d)
  a4 i x d := V (Proc.devRef .tc main_arg4) (ix3 i x d)
  a5 i x d := V (Proc.devRef .tc main_arg5) (ix3 i x d)
  a6 i d := V (Proc.devRef .tc main_arg6) (ix2 i d)
  a7 i x d := V (Proc.devRef .tc main_arg7) (ix3 i x d)
  a8 i x d := V (Proc.devRef .tc main_arg8) (ix3 i x d)
  a9 i d := V (Proc.devRef .tc main_arg9) (ix2 i d)
  a10 i x d := V (Proc.devRef .tc main_arg10) (ix3 i x d)
  a11 i d := V (Proc.devRef .tc main_arg11) (ix2 i d)

theorem t4 (r : Fin 4096) (d : Fin 1024) : after hostOps0 V (Proc.devRef .tc main_v4) (ix2 r d) = X1 (argsOf V) r d := by
  after_reads_at
  rfl

theorem t38 (b : Fin 4) (l : Fin 1024) (d : Fin 2048) : after hostOps0 V (Proc.devRef .tc main_v38) (ix3 b l d) = XI (argsOf V) b l d := by
  after_reads_at
  rfl

theorem t39 (b : Fin 4) (l : Fin 1024) (d : Fin 2048) : after hostOps0 V (Proc.devRef .tc main_v39) (ix3 b l d) = ZZ (argsOf V) b l d := by
  after_reads_at
  rfl

theorem t11 (d : Fin 2048) (k : Fin 4) : after hostOps0 V (Proc.devRef .tc main_v11) (ix2 d k) = (argsOf V).a5 1 d k := by
  after_reads_at
  rfl
theorem t13 (d : Fin 2048) : after hostOps0 V (Proc.devRef .tc main_v13) (ix1 d) = (argsOf V).a6 1 d := by
  after_reads_at
  rfl
theorem t15 (d : Fin 2048) (k : Fin 96) : after hostOps0 V (Proc.devRef .tc main_v15) (ix2 d k) = (argsOf V).a7 1 d k := by
  after_reads_at
  rfl
theorem t17 (d : Fin 64) (k : Fin 2048) : after hostOps0 V (Proc.devRef .tc main_v17) (ix2 d k) = (argsOf V).a8 1 d k := by
  after_reads_at
  rfl
theorem t19 (d : Fin 2048) : after hostOps0 V (Proc.devRef .tc main_v19) (ix1 d) = (argsOf V).a9 1 d := by
  after_reads_at
  rfl
theorem t21 (d : Fin 2048) (k : Fin 16) : after hostOps0 V (Proc.devRef .tc main_v21) (ix2 d k) = (argsOf V).a10 1 d k := by
  after_reads_at
  rfl
theorem t23 (d : Fin 2048) : after hostOps0 V (Proc.devRef .tc main_v23) (ix1 d) = (argsOf V).a11 1 d := by
  after_reads_at
  rfl
theorem tc : after hostOps0 V (Proc.devRef .tc main_c) (Shape.Idx.first h_S_) = (0#32 : BitVec 32) := by
  after_reads_at

theorem s73 (P : Args) (h38 : ∀ b l d, V (Proc.devRef .tc main_v38) (ix3 b l d) = XI P b l d)
    (h11 : ∀ d k, V (Proc.devRef .tc main_v11) (ix2 d k) = P.a5 1 d k) (h13 : ∀ d, V (Proc.devRef .tc main_v13) (ix1 d) = P.a6 1 d)
    (hc : V (Proc.devRef .tc main_c) (Shape.Idx.first h_S_) = (0#32 : BitVec 32)) (b : Fin 4) (l : Fin 1024) (d : Fin 2048) :
    after hostOps0_3 (after hostOps0_2 (after hostOps0_1 V)) (Proc.devRef .tc main_v73) (ix3 b l d) = XC P b l d := by
  have hz : @FloatOps.sitofp Ideal _ FTy.f32 32 0#32 = (0 : EReal) := by
    show (((0#32 : BitVec 32).toInt : ℝ) : EReal) = 0
    simp
  after_reads_at
  simp only [h38, h11, h13, hc, hz]
  rfl

theorem s81 (P : Args) (h73 : ∀ b l d, V (Proc.devRef .tc main_v73) (ix3 b l d) = XC P b l d)
    (h15 : ∀ d k, V (Proc.devRef .tc main_v15) (ix2 d k) = P.a7 1 d k) (h17 : ∀ d k, V (Proc.devRef .tc main_v17) (ix2 d k) = P.a8 1 d k)
    (h19 : ∀ d, V (Proc.devRef .tc main_v19) (ix1 d) = P.a9 1 d)
    (b : Fin 4) (l : Fin 1024) (d : Fin 2048) :
    after hostOps0_4 V (Proc.devRef .tc main_v81) (ix3 b l d) = DLN P b l d := by
  after_reads_at
  simp only [h73, h15, h17, h19]
  rfl

theorem s76 (P : Args) (h73 : ∀ b l d, V (Proc.devRef .tc main_v73) (ix3 b l d) = XC P b l d)
    (h15 : ∀ d k, V (Proc.devRef .tc main_v15) (ix2 d k) = P.a7 1 d k)
    (b : Fin 4) (l : Fin 1024) (n : Fin 16) :
    after hostOps0_4 V (Proc.devRef .tc main_v76) (ix3 b l n) = DB P b l ⟨64 + ↑n, by omega⟩ := by
  after_reads_at
  simp only [h73, h15]
  rfl

theorem s77 (P : Args) (h73 : ∀ b l d, V (Proc.devRef .tc main_v73) (ix3 b l d) = XC P b l d)
    (h15 : ∀ d k, V (Proc.devRef .tc main_v15) (ix2 d k) = P.a7 1 d k)
    (b : Fin 4) (l : Fin 1024) (n : Fin 16) :
    after hostOps0_4 V (Proc.devRef .tc main_v77) (ix3 b l n) = DB P b l ⟨80 + ↑n, by omega⟩ := by
  after_reads_at
  simp only [h73, h15]
  rfl

theorem s82 (P : Args) (h81 : ∀ b l d, V (Proc.devRef .tc main_v81) (ix3 b l d) = DLN P b l d)
    (b : Fin 4) (l : Fin 1024) (d : Fin 2048) :
    after hostOps0_5 V (Proc.devRef .tc main_v82) (ix3 b l d) = DL P b l d := by
  after_reads_at
  simp only [h81, ne_eq, not_true, if_false]
  rfl

end Cert.RefMidIdeal.Val

end
-- ==== Proof.RefLoop.lean ====
/- The reference read down to the shared functions, stage by stage. -/
/- The reference's loop: its state after each position, and what the whole reference leaves in its results. -/
module

public import proofs.«01_k».proof.Proof.Gen.RefMidIdeal.Run
public import Idealize.ShloMosaic.Lib.Pipeline.ValueKit
public import Idealize.ShloMosaic.Lib.StableHlo.ReadAt
public import Idealize.ShloMosaic.Lib.DynamicIndex
public import proofs.«01_k».proof.Proof.RefVal

@[expose] public section

set_option maxRecDepth 16384

noncomputable section

open Idealize.ShloMosaic Idealize.ShloMosaic.TcCoe Idealize.SL.Sem Idealize.ShloMosaic.StableHlo

namespace Cert.RefMidIdeal.Val

open Cert.RefMidIdeal Cert.RefMidIdeal.Gen Cert.RefMidIdeal.Value Cert.MidSpec

variable (V : Valuation τ sig (Elt Ideal))

theorem clx0 (k : ℕ) (hk : k < 1024) (f : Fin 3 → ℤ) (h) (hf : f 0 = (k : ℤ)) :
    Host.clampedStart { rank := 3, size := ![1024, 4, 2048] } S1x4x2048 h f 0 = k :=
  Host.clampedStart_of_le h _ _ _ (by simpa using hf) (by simp; try omega)
theorem clx1 (f : Fin 3 → ℤ) (h) (hf : f 1 = 0) :
    Host.clampedStart { rank := 3, size := ![1024, 4, 2048] } S1x4x2048 h f 1 = 0 :=
  Host.clampedStart_of_le h _ _ _ (by simpa using hf) (by simp; try omega)
theorem clx2 (f : Fin 3 → ℤ) (h) (hf : f 2 = 0) :
    Host.clampedStart { rank := 3, size := ![1024, 4, 2048] } S1x4x2048 h f 2 = 0 :=
  Host.clampedStart_of_le h _ _ _ (by simpa using hf) (by simp; try omega)
theorem cln0 (k : ℕ) (hk : k < 1024) (f : Fin 3 → ℤ) (h) (hf : f 0 = (k : ℤ)) :
    Host.clampedStart { rank := 3, size := ![1024, 4, 16] } S1x4x16 h f 0 = k :=
  Host.clampedStart_of_le h _ _ _ (by simpa using hf) (by simp; try omega)
theorem cln1 (f : Fin 3 → ℤ) (h) (hf : f 1 = 0) :
    Host.clampedStart { rank := 3, size := ![1024, 4, 16] } S1x4x16 h f 1 = 0 :=
  Host.clampedStart_of_le h _ _ _ (by simpa using hf) (by simp; try omega)
theorem cln2 (f : Fin 3 → ℤ) (h) (hf : f 2 = 0) :
    Host.clampedStart { rank := 3, size := ![1024, 4, 16] } S1x4x16 h f 2 = 0 :=
  Host.clampedStart_of_le h _ _ _ (by simpa using hf) (by simp; try omega)

theorem st0 (k : ℕ) (hk : k < 1024) (h : V (Proc.devRef .tc main_v91_5) = fun _ => Scf.iv 0#32 1#32 k) :
    (V (Proc.devRef .tc main_v91_5) (Shape.Idx.first h_S_) : BitVec 32).toInt = k := by
    rw [h]
    show (Scf.iv 0#32 1#32 k).toInt = k
    rw [show Scf.iv 0#32 1#32 k = BitVec.ofNat 32 k by simp [Scf.iv]]
    exact toInt_ofNat_of_lt (by omega)
theorem st1 : (constantI S_ 32 0#32 : IVec S_ 32) (Shape.Idx.first h_S_) = 0#32 := rfl

variable (P : Args)

/-- What the loop carries before position `k`. -/
structure Inv (k : ℕ) (V : Valuation τ sig (Elt Ideal)) : Prop where
  dt : ∀ l b d, V (Proc.devRef .tc main_v91_0) (ix3 l b d) = DL P b l d
  xc : ∀ l b d, V (Proc.devRef .tc main_v91_1) (ix3 l b d) = XC P b l d
  bm : ∀ l b (n : Fin 16), V (Proc.devRef .tc main_v91_2) (ix3 l b n) = DB P b l ⟨64 + ↑n, by omega⟩
  cm : ∀ l b (n : Fin 16), V (Proc.devRef .tc main_v91_3) (ix3 l b n) = DB P b l ⟨80 + ↑n, by omega⟩
  am : ∀ d n, V (Proc.devRef .tc main_v91_4) (ix2 d n) = AA P d n
  ctr : V (Proc.devRef .tc main_v91_5) = fun _ => Scf.iv 0#32 1#32 k
  st : ∀ b d n, V (Proc.devRef .tc main_v91_6) (ix3 b d n) = SS P b k d n
  ys : ∀ (l : Fin 1024) b d, ↑l < k → V (Proc.devRef .tc main_v91_7) (ix3 l b d) = YY P b l d

theorem res_state (k : ℕ) (hk : k < 1024) (h : Inv P k V) (b : Fin 4) (d : Fin 2048) (n : Fin 16) :
    res_main_while0b_v118 V (ix3 b d n) = SS P b (k + 1) d n := by
  unfold res_main_while0b_v118 res_main_while0b_v101
  have h5 := st0 V k hk h.ctr
  clean_types
  pointwise [id]
  simp only [clx0 k hk, clx1, clx2, cln0 k hk, cln1, cln2, Nat.zero_add, Nat.add_zero, Nat.sub_zero, Matrix.cons_val, h5,
    BitVec.toInt_zero, st1]
  rw [h.dt, h.xc, h.bm, h.am, h.st]
  simp only [SS, hk, dif_pos]

theorem res_out (k : ℕ) (hk : k < 1024) (h : Inv P k V) (l : Fin 1024) (b : Fin 4) (d : Fin 2048) (hl : ↑l < k + 1) :
    step_main_v91_7 V (ix3 l b d) = YY P b l d := by
  have hs := res_state V P k hk h
  unfold step_main_v91_7
  generalize res_main_while0b_v118 V = W at hs ⊢
  have h5 := st0 V k hk h.ctr
  clean_types
  pointwise [id]
  simp only [clx0 k hk, clx1, clx2, cln0 k hk, cln1, cln2, Nat.zero_add, Nat.add_zero, Nat.sub_zero, Matrix.cons_val, h5,
    BitVec.toInt_zero, st1]
  split_ifs with hc
  · obtain rfl : k = ↑l := by omega
    refine Finset.sum_congr rfl fun n _ => ?_
    rw [h.cm]
    exact congrArg (· * _) (hs b d n)
  · exact h.ys l b d (by omega)

theorem inv_step (k : ℕ) (hk : k < 1024) (h : Inv P k V) : Inv P (k + 1) (STEP V) where
  dt l b d := by rw [STEP_main_v91_0]; exact h.dt l b d
  xc l b d := by rw [STEP_main_v91_1]; exact h.xc l b d
  bm l b n := by rw [STEP_main_v91_2]; exact h.bm l b n
  cm l b n := by rw [STEP_main_v91_3]; exact h.cm l b n
  am d n := by rw [STEP_main_v91_4]; exact h.am d n
  ctr := by rw [STEP_main_v91_5]; unfold step_main_v91_5; rw [h.ctr, Scf.iv_succ]; rfl
  st b d n := by rw [STEP_main_v91_6]; exact res_state V P k hk h b d n
  ys l b d hl := by rw [STEP_main_v91_7]; exact res_out V P k hk h l b d hl

theorem inv_iter (h : Inv P 0 V) : ∀ k, k ≤ 1024 → Inv P k (STEP^[k] V)
  | 0, _ => h
  | k + 1, hk => by
    rw [Function.iterate_succ_apply']
    exact inv_step _ P k (by omega) (inv_iter h k (by omega))

/-- The last stretch before the loop sets the loop's carried values. -/
theorem inv_entry (h82 : ∀ b l d, V (Proc.devRef .tc main_v82) (ix3 b l d) = DL P b l d)
    (h73 : ∀ b l d, V (Proc.devRef .tc main_v73) (ix3 b l d) = XC P b l d)
    (h76 : ∀ b l (n : Fin 16), V (Proc.devRef .tc main_v76) (ix3 b l n) = DB P b l ⟨64 + ↑n, by omega⟩)
    (h77 : ∀ b l (n : Fin 16), V (Proc.devRef .tc main_v77) (ix3 b l n) = DB P b l ⟨80 + ↑n, by omega⟩)
    (h21 : ∀ d n, V (Proc.devRef .tc main_v21) (ix2 d n) = P.a10 1 d n) : Inv P 0 (after hostOps0_6 V) where
  dt l b d := by after_reads_at; pointwise [id]; exact h82 b l d
  xc l b d := by after_reads_at; pointwise [id]; exact h73 b l d
  bm l b n := by after_reads_at; pointwise [id]; exact h76 b l n
  cm l b n := by after_reads_at; pointwise [id]; exact h77 b l n
  am d n := by after_reads_at; pointwise [id]; rw [h21]; rfl
  ctr := by after_reads_simp; rw [Scf.iv_zero]; rfl
  st b d n := by after_reads_at; pointwise [id]; rfl
  ys l b d hl := absurd hl (Nat.not_lt_zero _)

theorem spost (h7 : ∀ (l : Fin 1024) b d, V (Proc.devRef .tc main_v91_7) (ix3 l b d) = YY P b l d)
    (h23 : ∀ d, V (Proc.devRef .tc main_v23) (ix1 d) = P.a11 1 d)
    (h73 : ∀ b l d, V (Proc.devRef .tc main_v73) (ix3 b l d) = XC P b l d)
    (h39 : ∀ b l d, V (Proc.devRef .tc main_v39) (ix3 b l d) = ZZ P b l d) (b : Fin 4) (l : Fin 1024) (d : Fin 2048) :
    after hostOps0_9 (after hostOps0_8 (after hostOps0_7 V)) (Proc.devRef .tc main_v100) (ix2 (Cert.MidSpec.rw b l) d) = OUT P b l d := by
  have e1 (h) : (⟨↑(Cert.MidSpec.rw b l) % 1024, h⟩ : Fin 1024) = l := Fin.ext (by simp only [Cert.MidSpec.rw]; omega)
  have e2 (h) : (⟨↑(Cert.MidSpec.rw b l) / 1024, h⟩ : Fin 4) = b := Fin.ext (by simp only [Cert.MidSpec.rw]; omega)
  after_reads_at
  rw [e1, e2, h7, h23, h73, h39]
  rfl

variable (m : (ℓ : Loc nD τ sig) → Buf (Elt Ideal) ℓ) (c : Dev nD)

/-- The arguments in the launch memory. -/
abbrev argsL : Args := argsOf (launchContents m c)

/-- The loop keeps what neither its condition nor its body writes. -/
theorem keep_loop (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_6 _ while0Ops0_6_writes h6, after_of_writes_sub while0Ops0_5 _ while0Ops0_5_writes h5,
      after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]
    exact keep_loop r hc h0 h1 h2 h3 h4 h5 h6 k

/-- The stretches after the first keep what they do not write. -/
theorem keep_123 (r : Ref sig .tc) (h1 : r ∉ hostOps0_1_W) (h2 : r ∉ hostOps0_2_W) (h3 : r ∉ hostOps0_3_W) :
    after hostOps0_3 (after hostOps0_2 (after hostOps0_1 V)) (Proc.devRef .tc r) = V (Proc.devRef .tc r) := by
  rw [after_of_writes_sub hostOps0_3 _ hostOps0_3_writes h3, after_of_writes_sub hostOps0_2 _ hostOps0_2_writes h2,
    after_of_writes_sub hostOps0_1 _ hostOps0_1_writes h1]

theorem keep_456 (r : Ref sig .tc) (h1 : r ∉ hostOps0_4_W) (h2 : r ∉ hostOps0_5_W) (h3 : r ∉ hostOps0_6_W) :
    after hostOps0_6 (after hostOps0_5 (after hostOps0_4 V)) (Proc.devRef .tc r) = V (Proc.devRef .tc r) := by
  rw [after_of_writes_sub hostOps0_6 _ hostOps0_6_writes h3, after_of_writes_sub hostOps0_5 _ hostOps0_5_writes h2,
    after_of_writes_sub hostOps0_4 _ hostOps0_4_writes h1]

/-- The buffers after the activation of the convolved branch. -/
abbrev W3 : Valuation τ sig (Elt Ideal) := after hostOps0_3 (after hostOps0_2 (after hostOps0_1 (after hostOps0 (launchContents m c))))

theorem w3keep (r : Ref sig .tc) (h1 : r ∉ hostOps0_1_W) (h2 : r ∉ hostOps0_2_W) (h3 : r ∉ hostOps0_3_W) :
    W3 m c (Proc.devRef .tc r) = after hostOps0 (launchContents m c) (Proc.devRef .tc r) := keep_123 _ r h1 h2 h3

theorem w73 (b : Fin 4) (l : Fin 1024) (d : Fin 2048) : W3 m c (Proc.devRef .tc main_v73) (ix3 b l d) = XC (argsL m c) b l d :=
  s73 _ (argsL m c) (t38 _) (t11 _) (t13 _) (tc _) b l d

theorem w15 (d : Fin 2048) (k : Fin 96) : W3 m c (Proc.devRef .tc main_v15) (ix2 d k) = (argsL m c).a7 1 d k := by
  rw [w3keep m c main_v15 (by decide) (by decide) (by decide)]; exact t15 _ d k

theorem entry_inv : Inv (argsL m c) 0 (entryContents preI m c) := by
  show Inv (argsL m c) 0 (after hostOps0_6 (after hostOps0_5 (after hostOps0_4 (W3 m c))))
  refine inv_entry _ _ (s82 _ _ (s81 _ _ (w73 m c) (w15 m c) (fun d k => ?_) (fun d => ?_))) (fun b l d => ?_) (fun b l n => ?_)
    (fun b l n => ?_) (fun d n => ?_)
  · rw [w3keep m c main_v17 (by decide) (by decide) (by decide)]; exact t17 _ d k
  · rw [w3keep m c main_v19 (by decide) (by decide) (by decide)]; exact t19 _ d
  · rw [after_of_writes_sub hostOps0_5 _ hostOps0_5_writes (r := main_v73) (by decide),
      after_of_writes_sub hostOps0_4 _ hostOps0_4_writes (r := main_v73) (by decide)]
    exact w73 m c b l d
  · rw [after_of_writes_sub hostOps0_5 _ hostOps0_5_writes (r := main_v76) (by decide)]
    exact s76 _ _ (w73 m c) (w15 m c) b l n
  · rw [after_of_writes_sub hostOps0_5 _ hostOps0_5_writes (r := main_v77) (by decide)]
    exact s77 _ _ (w73 m c) (w15 m c) b l n
  · rw [after_of_writes_sub hostOps0_5 _ hostOps0_5_writes (r := main_v21) (by decide),
      after_of_writes_sub hostOps0_4 _ hostOps0_4_writes (r := main_v21) (by decide),
      w3keep m c main_v21 (by decide) (by decide) (by decide)]
    exact t21 _ d n

/-- The buffers when the loop is left. -/
abbrev WE : Valuation τ sig (Elt Ideal) := after condOps (atK m 1024 c)

theorem keep_WE (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (h6 : r ∉ while0Ops0_6_W)
    (g1 : r ∉ hostOps0_4_W) (g2 : r ∉ hostOps0_5_W) (g3 : r ∉ hostOps0_6_W) :
    WE m c (Proc.devRef .tc r) = W3 m c (Proc.devRef .tc r) := by
  refine (after_of_writes_sub condOps _ condOps_writes hc).trans ((keep_loop m c r hc h0 h1 h2 h3 h4 h5 h6 1024).trans ?_)
  exact keep_456 (W3 m c) r g1 g2 g3

/-- The reference's second result. -/
theorem out_eq (b : Fin 4) (l : Fin 1024) (d : Fin 2048) :
    finalContents condOps preI bodyI postI 1024 m c (Proc.devRef .tc main_v100) (ix2 (Cert.MidSpec.rw b l) d) = OUT (argsL m c) b l d := by
  show after hostOps0_9 (after hostOps0_8 (after hostOps0_7 (WE m c))) (Proc.devRef .tc main_v100) (ix2 (Cert.MidSpec.rw b l) d) = _
  refine spost _ (argsL m c) (fun l b d => ?_) (fun d => ?_) (fun b l d => ?_) (fun b l d => ?_) b l d
  · refine (congrFun ((cond_keeps (atK m 1024 c) main_v91_7 (by decide)).trans (atK_agree m c 1024 main_v91_7 (by decide))) _).trans ?_
    exact (inv_iter _ _ (entry_inv m c) 1024 le_rfl).ys l b d l.isLt
  · rw [keep_WE m c main_v23 (by decide) (by decide) (by decide) (by decide) (by decide) (by decide) (by decide) (by decide) (by decide) (by decide) (by decide),
      w3keep m c main_v23 (by decide) (by decide) (by decide)]
    exact t23 _ d
  · rw [keep_WE m c main_v73 (by decide) (by decide) (by decide) (by decide) (by decide) (by decide) (by decide) (by decide) (by decide) (by decide) (by decide)]
    exact w73 m c b l d
  · rw [keep_WE m c main_v39 (by decide) (by decide) (by decide) (by decide) (by decide) (by decide) (by decide) (by decide) (by decide) (by decide) (by decide),
      w3keep m c main_v39 (by decide) (by decide) (by decide)]
    exact t39 _ b l d

theorem keep_post (r : Ref sig .tc) (hr : r ∈ [main_v4, main_arg0, main_arg1, main_arg2, main_arg3, main_arg4, main_arg5, main_arg6, main_arg7,
      main_arg8, main_arg9, main_arg10, main_arg11]) :
    finalContents condOps preI bodyI postI 1024 m c (Proc.devRef .tc r) = after hostOps0 (launchContents m c) (Proc.devRef .tc r) := by
  have h : after hostOps0_9 (after hostOps0_8 (after hostOps0_7 (WE m c))) (Proc.devRef .tc r) = WE m c (Proc.devRef .tc r) := by
    generalize WE m c = W
    fin_cases hr <;> after_reads_simp
  refine h.trans ?_
  have k : WE m c (Proc.devRef .tc r) = W3 m c (Proc.devRef .tc r) := by
    fin_cases hr <;> exact keep_WE m c _ (by decide) (by decide) (by decide) (by decide) (by decide) (by decide) (by decide) (by decide) (by decide) (by decide) (by decide)
  refine k.trans ?_
  fin_cases hr <;> exact keep_123 _ _ (by decide) (by decide) (by decide)

/-- The reference's first result. -/
theorem x1_eq (r : Fin 4096) (d : Fin 1024) :
    finalContents condOps preI bodyI postI 1024 m c (Proc.devRef .tc main_v4) (ix2 r d) = X1 (argsL m c) r d := by
  rw [keep_post m c main_v4 (by decide)]; exact t4 _ r d

/-- The reference keeps its arguments. -/
theorem arg_eq (r : Ref sig .tc) (hr : r ∈ [main_arg0, main_arg1, main_arg2, main_arg3, main_arg4, main_arg5, main_arg6, main_arg7,
      main_arg8, main_arg9, main_arg10, main_arg11]) :
    finalContents condOps preI bodyI postI 1024 m c (Proc.devRef .tc r) = launchContents m c (Proc.devRef .tc r) := by
  rw [keep_post m c r (List.mem_cons_of_mem _ hr)]
  refine after_of_writes_sub hostOps0 _ hostOps0_writes ?_
  fin_cases hr <;> decide

end Cert.RefMidIdeal.Val

end
-- ==== Proof.MidJoin.lean ====
/- The middle call: its frames and its value claim, the kernel's result arrays set beside the reference's. -/
module

public import proofs.«01_k».proof.Defs
public import proofs.«01_k».proof.Proof.KRun
public import proofs.«01_k».proof.Proof.MRun
public import proofs.«01_k».proof.Proof.PreVal
public import proofs.«01_k».proof.Proof.RefLoop
public import Idealize.ShloMosaic.Lib.Quiescent

@[expose] public section

set_option maxRecDepth 16384

noncomputable section

open Idealize.ShloMosaic Idealize.ShloMosaic.TcCoe Idealize.SL.Sem Idealize.ShloMosaic.StableHlo

namespace Cert.Proof

/-! ## Frames -/

theorem frame_mid : Cert.quiescent_Mid := fun m ρ _ => Cert.Mid.Run.frame m ρ
theorem frame_midI : Cert.quiescent_MidIdeal := fun m ρ _ => Cert.MidIdeal.Run.frame m ρ
theorem frame_midI_small : Cert.quiescent_MidIdeal_pre_dt_small_m1 := fun m ρ _ => Cert.MidIdeal.Run.frame m ρ

open Cert.RefMidIdeal Cert.RefMidIdeal.Gen Cert.RefMidIdeal.Value in
/-- The reference runs, its buffers end at the fold, its semaphores at zero. -/
theorem run_refMid (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c =>
      ⟨(h c main_arg0 rfl).trans (Cert.RefMidIdeal.Val.arg_eq m c main_arg0 (by decide)),
        (h c main_arg1 rfl).trans (Cert.RefMidIdeal.Val.arg_eq m c main_arg1 (by decide)),
        (h c main_arg2 rfl).trans (Cert.RefMidIdeal.Val.arg_eq m c main_arg2 (by decide)),
        (h c main_arg3 rfl).trans (Cert.RefMidIdeal.Val.arg_eq m c main_arg3 (by decide)),
        (h c main_arg4 rfl).trans (Cert.RefMidIdeal.Val.arg_eq m c main_arg4 (by decide)),
        (h c main_arg5 rfl).trans (Cert.RefMidIdeal.Val.arg_eq m c main_arg5 (by decide)),
        (h c main_arg6 rfl).trans (Cert.RefMidIdeal.Val.arg_eq m c main_arg6 (by decide)),
        (h c main_arg7 rfl).trans (Cert.RefMidIdeal.Val.arg_eq m c main_arg7 (by decide)),
        (h c main_arg8 rfl).trans (Cert.RefMidIdeal.Val.arg_eq m c main_arg8 (by decide)),
        (h c main_arg9 rfl).trans (Cert.RefMidIdeal.Val.arg_eq m c main_arg9 (by decide)),
        (h c main_arg10 rfl).trans (Cert.RefMidIdeal.Val.arg_eq m c main_arg10 (by decide)),
        (h c main_arg11 rfl).trans (Cert.RefMidIdeal.Val.arg_eq m c main_arg11 (by decide))⟩,
      Idealize.ShloMosaic.sem_eq_zero_of_no_sems (by decide) r.2⟩)
    (run_fold (F := Ideal) m ρ)

theorem frame_refMid : Cert.quiescent_RefMidIdeal := fun m ρ _ => run_refMid m ρ
theorem frame_refMid_small : Cert.quiescent_RefMidIdeal_pre_dt_small_m1 := fun m ρ _ => run_refMid m ρ

/-! ## The value claim -/

theorem argsK_eq (m : (ℓ : Loc Cert.MidIdeal.nD Cert.MidIdeal.τ Cert.MidIdeal.sig) → Buf (Elt Ideal) ℓ) (c : Dev Cert.MidIdeal.nD) :
    Cert.MidIdeal.KRun.argsK m c = Cert.Pre_dt_small_m1.Val.argsP
      (m ((c.tc : Thread Cert.MidIdeal.nD Cert.MidIdeal.τ).loc Cert.MidIdeal.main_arg0))
      (m ((c.tc : Thread Cert.MidIdeal.nD Cert.MidIdeal.τ).loc Cert.MidIdeal.main_arg1))
      (m ((c.tc : Thread Cert.MidIdeal.nD Cert.MidIdeal.τ).loc Cert.MidIdeal.main_arg2))
      (m ((c.tc : Thread Cert.MidIdeal.nD Cert.MidIdeal.τ).loc Cert.MidIdeal.main_arg3))
      (m ((c.tc : Thread Cert.MidIdeal.nD Cert.MidIdeal.τ).loc Cert.MidIdeal.main_arg4))
      (m ((c.tc : Thread Cert.MidIdeal.nD Cert.MidIdeal.τ).loc Cert.MidIdeal.main_arg5))
      (m ((c.tc : Thread Cert.MidIdeal.nD Cert.MidIdeal.τ).loc Cert.MidIdeal.main_arg6))
      (m ((c.tc : Thread Cert.MidIdeal.nD Cert.MidIdeal.τ).loc Cert.MidIdeal.main_arg7))
      (m ((c.tc : Thread Cert.MidIdeal.nD Cert.MidIdeal.τ).loc Cert.MidIdeal.main_arg8))
      (m ((c.tc : Thread Cert.MidIdeal.nD Cert.MidIdeal.τ).loc Cert.MidIdeal.main_arg9))
      (m ((c.tc : Thread Cert.MidIdeal.nD Cert.MidIdeal.τ).loc Cert.MidIdeal.main_arg10))
      (m ((c.tc : Thread Cert.MidIdeal.nD Cert.MidIdeal.τ).loc Cert.MidIdeal.main_arg11)) := rfl

theorem argsL_eq (m : (ℓ : Loc Cert.RefMidIdeal.nD Cert.RefMidIdeal.τ Cert.RefMidIdeal.sig) → Buf (Elt Ideal) ℓ) (c : Dev Cert.RefMidIdeal.nD) :
    Cert.RefMidIdeal.Val.argsL m c = Cert.Pre_dt_small_m1.Val.argsP
      (m ((c.tc : Thread Cert.RefMidIdeal.nD Cert.RefMidIdeal.τ).loc Cert.RefMidIdeal.main_arg0))
      (m ((c.tc : Thread Cert.RefMidIdeal.nD Cert.RefMidIdeal.τ).loc Cert.RefMidIdeal.main_arg1))
      (m ((c.tc : Thread Cert.RefMidIdeal.nD Cert.RefMidIdeal.τ).loc Cert.RefMidIdeal.main_arg2))
      (m ((c.tc : Thread Cert.RefMidIdeal.nD Cert.RefMidIdeal.τ).loc Cert.RefMidIdeal.main_arg3))
      (m ((c.tc : Thread Cert.RefMidIdeal.nD Cert.RefMidIdeal.τ).loc Cert.RefMidIdeal.main_arg4))
      (m ((c.tc : Thread Cert.RefMidIdeal.nD Cert.RefMidIdeal.τ).loc Cert.RefMidIdeal.main_arg5))
      (m ((c.tc : Thread Cert.RefMidIdeal.nD Cert.RefMidIdeal.τ).loc Cert.RefMidIdeal.main_arg6))
      (m ((c.tc : Thread Cert.RefMidIdeal.nD Cert.RefMidIdeal.τ).loc Cert.RefMidIdeal.main_arg7))
      (m ((c.tc : Thread Cert.RefMidIdeal.nD Cert.RefMidIdeal.τ).loc Cert.RefMidIdeal.main_arg8))
      (m ((c.tc : Thread Cert.RefMidIdeal.nD Cert.RefMidIdeal.τ).loc Cert.RefMidIdeal.main_arg9))
      (m ((c.tc : Thread Cert.RefMidIdeal.nD Cert.RefMidIdeal.τ).loc Cert.RefMidIdeal.main_arg10))
      (m ((c.tc : Thread Cert.RefMidIdeal.nD Cert.RefMidIdeal.τ).loc Cert.RefMidIdeal.main_arg11)) := rfl

theorem algebraic_mid : Cert.algebraic_MidIdeal_RefMidIdeal_pre_dt_small_m1 := by
  intro m ρ m' ρ' hpre hag
  have hs (c : Dev Cert.MidIdeal.nD) (b l d) :
      Cert.MidSpec.DLN (Cert.MidIdeal.KRun.argsK m c) b l d ≤ Ideal.ofBits .f32 0x41A00000#32 := by
    rw [argsK_eq]; exact Cert.Pre_dt_small_m1.Val.small _ _ _ _ _ _ _ _ _ _ _ _ (hpre c) b l d
  have he (c : Dev Cert.MidIdeal.nD) : Cert.RefMidIdeal.Val.argsL m' c = Cert.MidIdeal.KRun.argsK m c := by
    obtain ⟨h0, h1, h2, h3, h4, h5, h6, h7, h8, h9, h10, h11⟩ := hag c
    rw [argsL_eq, argsK_eq, h0, h1, h2, h3, h4, h5, h6, h7, h8, h9, h10, h11]
  refine ⟨fun c => Cert.MidIdeal.KRun.X1A (Cert.MidIdeal.KRun.argsK m c), fun c => Cert.MidIdeal.KRun.OUTA (Cert.MidIdeal.KRun.argsK m c), ?_, ?_⟩
  · refine (θ_run Cert.MidIdeal.defs _ _).mono ?_
      (θ_run_and (Cert.MidIdeal.Run.run_main (F := Ideal) m ρ) (Cert.MidIdeal.Run.frame (F := Ideal) m ρ))
    exact fun _ h c => ⟨((h.1 c).1 12).trans (Cert.MidIdeal.KRun.final12 m c), ((h.1 c).1 13).trans (Cert.MidIdeal.KRun.final13 m c (hs c)), h.2.1 c⟩
  · refine (θ_run Cert.RefMidIdeal.defs _ _).mono ?_
      (θ_run_and (Cert.RefMidIdeal.Value.run_fold (F := Ideal) m' ρ') (run_refMid m' ρ'))
    refine fun _ h c => ⟨(h.1 c Cert.RefMidIdeal.main_v4 rfl).trans ?_, (h.1 c Cert.RefMidIdeal.main_v100 rfl).trans ?_, h.2.1 c⟩
    · funext y
      obtain ⟨r, d, rfl⟩ : ∃ (r : Fin 4096) (d : Fin 1024), y = ix2 r d := ⟨y 0, y 1, eq_ix2 y⟩
      refine (Cert.RefMidIdeal.Val.x1_eq m' c r d).trans ?_
      rw [he c]; rfl
    · funext y
      obtain ⟨b, l, d, rfl⟩ : ∃ (b : Fin 4) (l : Fin 1024) (d : Fin 2048), y = ix2 (Cert.MidSpec.rw b l) d := by
        obtain ⟨r, d, rfl⟩ : ∃ (r : Fin 4096) (d : Fin 2048), y = ix2 r d := ⟨y 0, y 1, eq_ix2 y⟩
        refine ⟨⟨r.val / 1024, by omega⟩, ⟨r.val % 1024, Nat.mod_lt _ (by norm_num)⟩, d, ?_⟩
        exact congrArg (ix2 · d) (Fin.ext (by show r.val = r.val / 1024 * 1024 + r.val % 1024; omega))
      refine (Cert.RefMidIdeal.Val.out_eq m' c b l d).trans ?_
      rw [he c]
      have e1 : (⟨(Cert.MidSpec.rw b l).val / 1024, by have := (Cert.MidSpec.rw b l).isLt; omega⟩ : Fin 4) = b :=
        Fin.ext (by show (b.val * 1024 + l.val) / 1024 = b.val; omega)
      have e2 : (⟨(Cert.MidSpec.rw b l).val % 1024, Nat.mod_lt _ (by norm_num)⟩ : Fin 1024) = l :=
        Fin.ext (by show (b.val * 1024 + l.val) % 1024 = l.val; omega)
      show _ = Cert.MidSpec.OUT (Cert.MidIdeal.KRun.argsK m c) ⟨(Cert.MidSpec.rw b l).val / 1024, _⟩ ⟨(Cert.MidSpec.rw b l).val % 1024, _⟩ d
      rw [e1, e2]

end Cert.Proof

end
-- ==== Proof.lean ====
module

public import proofs.«01_k».proof.Defs
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.RefHeadIdeal
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.RefFinalIdeal
public import proofs.«01_k».proof.Proof.Gen.HeadIdeal.Value
public import proofs.«01_k».proof.Proof.Gen.FinalIdeal.Value
public import proofs.«01_k».proof.Proof.Gen.RefHeadIdeal.Run
public import proofs.«01_k».proof.Proof.Gen.RefFinalIdeal.Run
public import proofs.«01_k».proof.Proof.ValHead
public import proofs.«01_k».proof.Proof.ValFinal
public import proofs.«01_k».proof.Proof.MidJoin
public import Idealize.ShloMosaic.Lib.Quiescent
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.Mid.Loops
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidIdeal.Loops
public import proofs.«01_k».proof.Proof.Gen.RefMidIdeal
public import proofs.«01_k».proof.Proof.Gen.RefMidIdeal.Run
public import proofs.«01_k».proof.Proof.Gen.Pre_dt_small_m1
public import Idealize.ShloMosaic.Adequacy
public import Idealize.ShloMosaic.Init

@[expose] public section

noncomputable section

namespace Cert.Proof

open Idealize.ShloMosaic Idealize.ShloMosaic.TcCoe Idealize.SL.Sem

/-! ## The head -/

theorem frame_head : Cert.quiescent_Head := fun m ρ _ => Cert.Head.Gen.frame m ρ
theorem frame_headI : Cert.quiescent_HeadIdeal := fun m ρ _ => Cert.HeadIdeal.Gen.frame m ρ
theorem frame_refHead : Cert.quiescent_RefHeadIdeal := fun m ρ _ =>
  (θ_run Cert.RefHeadIdeal.defs _ _).mono (fun r h => ⟨fun c => ⟨(h c).2.1, (h c).2.2⟩,
      Idealize.ShloMosaic.sem_eq_zero_of_no_sems (by decide) r.2⟩)
    (Cert.RefHeadIdeal.Value.run (F := Ideal) m ρ)

theorem algebraic_head : Cert.algebraic_HeadIdeal_RefHeadIdeal := by
  intro m ρ m' ρ' _ hag
  refine ⟨fun c => Cert.HeadIdeal.RefValue.REF (m ((c : Thread Cert.HeadIdeal.nD Cert.HeadIdeal.τ).loc Cert.HeadIdeal.main_arg0))
    (m ((c : Thread Cert.HeadIdeal.nD Cert.HeadIdeal.τ).loc Cert.HeadIdeal.main_arg1)), ?_, ?_⟩
  · exact (θ_run Cert.HeadIdeal.defs _ _).mono
      (fun _ h c => ⟨(h c).1.trans (Cert.HeadIdeal.RefValue.final m c), (h c).2⟩)
      (Cert.HeadIdeal.Value.run_blocks (F := Ideal) m ρ)
  · refine (θ_run Cert.RefHeadIdeal.defs _ _).mono (fun _ h c => ⟨(h c).1.trans ?_, (h c).2⟩)
      (Cert.RefHeadIdeal.Value.run (F := Ideal) m' ρ')
    rw [(hag c).1, (hag c).2]

/-! ## The final normalisation -/

theorem frame_final : Cert.quiescent_Final := fun m ρ _ => Cert.Final.Gen.frame m ρ
theorem frame_finalI : Cert.quiescent_FinalIdeal := fun m ρ _ => Cert.FinalIdeal.Gen.frame m ρ
theorem frame_refFinal : Cert.quiescent_RefFinalIdeal := fun m ρ _ =>
  (θ_run Cert.RefFinalIdeal.defs _ _).mono (fun r h => ⟨fun c => (h c).2,
      Idealize.ShloMosaic.sem_eq_zero_of_no_sems (by decide) r.2⟩)
    (Cert.RefFinalIdeal.Value.run (F := Ideal) m ρ)

theorem algebraic_final : Cert.algebraic_FinalIdeal_RefFinalIdeal := by
  intro m ρ m' ρ' _ hag
  refine ⟨fun c => Cert.FinalIdeal.RefValue.REF (m ((c : Thread Cert.FinalIdeal.nD Cert.FinalIdeal.τ).loc Cert.FinalIdeal.main_arg0))
    (m ((c : Thread Cert.FinalIdeal.nD Cert.FinalIdeal.τ).loc Cert.FinalIdeal.main_arg1))
    (m ((c : Thread Cert.FinalIdeal.nD Cert.FinalIdeal.τ).loc Cert.FinalIdeal.main_arg2))
    (m ((c : Thread Cert.FinalIdeal.nD Cert.FinalIdeal.τ).loc Cert.FinalIdeal.main_arg3)), ?_, ?_⟩
  · exact (θ_run Cert.FinalIdeal.defs _ _).mono
      (fun _ h c => ⟨(h c).1.trans (Cert.FinalIdeal.RefValue.final m c), (h c).2⟩)
      (Cert.FinalIdeal.Value.run_blocks (F := Ideal) m ρ)
  · refine (θ_run Cert.RefFinalIdeal.defs _ _).mono (fun _ h c => ⟨(h c).1.trans ?_, (h c).2⟩)
      (Cert.RefFinalIdeal.Value.run (F := Ideal) m' ρ')
    rw [(hag c).1, (hag c).2.1, (hag c).2.2.1, (hag c).2.2.2]

theorem claim : Cert.Claim := ⟨Cert.Head.Gen.facts, Cert.HeadIdeal.Gen.facts, Cert.RefHeadIdeal.Gen.facts,
  Cert.Final.Gen.facts, Cert.FinalIdeal.Gen.facts, Cert.RefFinalIdeal.Gen.facts,
  Cert.Mid.Gen.facts, Cert.MidIdeal.Gen.facts, Cert.RefMidIdeal.Gen.facts, Cert.Pre_dt_small_m1.Gen.facts,
  frame_head, frame_headI, frame_refHead, frame_final, frame_finalI, frame_refFinal,
  frame_mid, frame_midI, frame_midI_small, frame_refMid, frame_refMid_small,
  trivial, algebraic_head, trivial, algebraic_final, trivial, algebraic_mid⟩

end Cert.Proof

end
